-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S128x8192 : Shape := ⟨2, ![128, 8192]⟩
abbrev S32x128x128 : Shape := ⟨3, ![32, 128, 128]⟩
abbrev S3x256x8192 : Shape := ⟨3, ![3, 256, 8192]⟩
abbrev S3x2 : Shape := ⟨2, ![3, 2]⟩
abbrev S32 : Shape := ⟨1, ![32]⟩
abbrev S_ : Shape := ⟨0, ![]⟩
abbrev S1 : Shape := ⟨1, ![1]⟩
abbrev S1x128x128 : Shape := ⟨3, ![1, 128, 128]⟩
abbrev S128x128 : Shape := ⟨2, ![128, 128]⟩
abbrev S1x1 : Shape := ⟨2, ![1, 1]⟩
abbrev S1x128x8192 : Shape := ⟨3, ![1, 128, 8192]⟩
abbrev S128x256 : Shape := ⟨2, ![128, 256]⟩
abbrev S1x256x8192 : Shape := ⟨3, ![1, 256, 8192]⟩
abbrev S256x8192 : Shape := ⟨2, ![256, 8192]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S4096x8192, .f32⟩
  | .hbm, ⟨2, _⟩ => ⟨S128x8192, .f32⟩
  | .local _ .vmem, ⟨0, _⟩ => ⟨S4096x128, .f32⟩
  | .local _ .vmem, ⟨1, _⟩ => ⟨S128x8192, .f32⟩
  | .local _ .vmem, ⟨2, _⟩ => ⟨S4096x128, .bf16⟩
  | .local _ .vmem, ⟨3, _⟩ => ⟨S32x128x128, .bf16⟩
  | .local _ .vmem, ⟨4, _⟩ => ⟨S3x256x8192, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c1_i32_283 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v413 : BitVec 32 := Scalar.addi v2 c1_i32_283
  let c32_i32_284 : BitVec 32 := 32#32
  let c0_i32_285 : BitVec 32 := 0#32
  let v414 : BitVec 1 := Scalar.cmpi .eq c32_i32_284 c0_i32_285
  let c1_i32_286 : BitVec 32 := 1#32
  let v415 : BitVec 32 := Scalar.select v414 c1_i32_286 c32_i32_284
  let v416 : BitVec 32 := Scalar.remsi v413 v415
  let c0_i32_288 : BitVec 32 := 0#32
  let v418 : BitVec 1 := Scalar.cmpi .slt v416 c0_i32_288
  let c0_i32_289 : BitVec 32 := 0#32
  let v419 : BitVec 1 := Scalar.cmpi .slt v415 c0_i32_289
  let v420 : BitVec 1 := Scalar.xori v418 v419
  let c0_i32_287 : BitVec 32 := 0#32
  let v417 : BitVec 1 := Scalar.cmpi .ne v416 c0_i32_287
  let v421 : BitVec 1 := Scalar.andi v420 v417
  let v422 : BitVec 32 := Scalar.addi v416 v415
  let v423 : BitVec 32 := Scalar.select v421 v422 v416
  let c128_i32 : BitVec 32 := 128#32
  let v424 : BitVec 32 := Scalar.muli v423 c128_i32
  let c0_i32_297 : BitVec 32 := 0#32
  ![v424.toNat, 0]
def k0_dev32 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_283 : BitVec 32 := 1#32
  let v413 : BitVec 32 := Scalar.addi v2 c1_i32_283
  let c32_i32_284 : BitVec 32 := 32#32
  let c0_i32_285 : BitVec 32 := 0#32
  let v414 : BitVec 1 := Scalar.cmpi .eq c32_i32_284 c0_i32_285
  let c1_i32_286 : BitVec 32 := 1#32
  let v415 : BitVec 32 := Scalar.select v414 c1_i32_286 c32_i32_284
  let v416 : BitVec 32 := Scalar.remsi v413 v415
  let c0_i32_288 : BitVec 32 := 0#32
  let v418 : BitVec 1 := Scalar.cmpi .slt v416 c0_i32_288
  let c0_i32_289 : BitVec 32 := 0#32
  let v419 : BitVec 1 := Scalar.cmpi .slt v415 c0_i32_289
  let v420 : BitVec 1 := Scalar.xori v418 v419
  let c0_i32_287 : BitVec 32 := 0#32
  let v417 : BitVec 1 := Scalar.cmpi .ne v416 c0_i32_287
  let v421 : BitVec 1 := Scalar.andi v420 v417
  let v422 : BitVec 32 := Scalar.addi v416 v415
  let v423 : BitVec 32 := Scalar.select v421 v422 v416
  let c1_i32_293 : BitVec 32 := 1#32
  let v425 : BitVec 32 := Scalar.muli v423 c1_i32_293
  let v426 : BitVec 32 := Scalar.addi c0_i32_294 v425
  v426.toNat
def k0_dev33 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_298 : BitVec 32 := 2#32
  let v434 : BitVec 32 := Scalar.addi v2 c2_i32_298
  let c32_i32_299 : BitVec 32 := 32#32
  let c0_i32_300 : BitVec 32 := 0#32
  let v435 : BitVec 1 := Scalar.cmpi .eq c32_i32_299 c0_i32_300
  let c1_i32_301 : BitVec 32 := 1#32
  let v436 : BitVec 32 := Scalar.select v435 c1_i32_301 c32_i32_299
  let v437 : BitVec 32 := Scalar.remsi v434 v436
  let c0_i32_303 : BitVec 32 := 0#32
  let v439 : BitVec 1 := Scalar.cmpi .slt v437 c0_i32_303
  let c0_i32_304 : BitVec 32 := 0#32
  let v440 : BitVec 1 := Scalar.cmpi .slt v436 c0_i32_304
  let v441 : BitVec 1 := Scalar.xori v439 v440
  let c0_i32_302 : BitVec 32 := 0#32
  let v438 : BitVec 1 := Scalar.cmpi .ne v437 c0_i32_302
  let v442 : BitVec 1 := Scalar.andi v441 v438
  let v443 : BitVec 32 := Scalar.addi v437 v436
  let v444 : BitVec 32 := Scalar.select v442 v443 v437
  let c1_i32_309 : BitVec 32 := 1#32
  let v446 : BitVec 32 := Scalar.muli v444 c1_i32_309
  let v447 : BitVec 32 := Scalar.addi c0_i32_310 v446
  v447.toNat
def k0_dev34 (d0 : Dev nD) : Nat :=
  let c0_i32_326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_314 : BitVec 32 := 3#32
  let v455 : BitVec 32 := Scalar.addi v2 c3_i32_314
  let c32_i32_315 : BitVec 32 := 32#32
  let c0_i32_316 : BitVec 32 := 0#32
  let v456 : BitVec 1 := Scalar.cmpi .eq c32_i32_315 c0_i32_316
  let c1_i32_317 : BitVec 32 := 1#32
  let v457 : BitVec 32 := Scalar.select v456 c1_i32_317 c32_i32_315
  let v458 : BitVec 32 := Scalar.remsi v455 v457
  let c0_i32_319 : BitVec 32 := 0#32
  let v460 : BitVec 1 := Scalar.cmpi .slt v458 c0_i32_319
  let c0_i32_320 : BitVec 32 := 0#32
  let v461 : BitVec 1 := Scalar.cmpi .slt v457 c0_i32_320
  let v462 : BitVec 1 := Scalar.xori v460 v461
  let c0_i32_318 : BitVec 32 := 0#32
  let v459 : BitVec 1 := Scalar.cmpi .ne v458 c0_i32_318
  let v463 : BitVec 1 := Scalar.andi v462 v459
  let v464 : BitVec 32 := Scalar.addi v458 v457
  let v465 : BitVec 32 := Scalar.select v463 v464 v458
  let c1_i32_325 : BitVec 32 := 1#32
  let v467 : BitVec 32 := Scalar.muli v465 c1_i32_325
  let v468 : BitVec 32 := Scalar.addi c0_i32_326 v467
  v468.toNat
def k0_dev35 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_330 : BitVec 32 := 4#32
  let v476 : BitVec 32 := Scalar.addi v2 c4_i32_330
  let c32_i32_331 : BitVec 32 := 32#32
  let c0_i32_332 : BitVec 32 := 0#32
  let v477 : BitVec 1 := Scalar.cmpi .eq c32_i32_331 c0_i32_332
  let c1_i32_333 : BitVec 32 := 1#32
  let v478 : BitVec 32 := Scalar.select v477 c1_i32_333 c32_i32_331
  let v479 : BitVec 32 := Scalar.remsi v476 v478
  let c0_i32_335 : BitVec 32 := 0#32
  let v481 : BitVec 1 := Scalar.cmpi .slt v479 c0_i32_335
  let c0_i32_336 : BitVec 32 := 0#32
  let v482 : BitVec 1 := Scalar.cmpi .slt v478 c0_i32_336
  let v483 : BitVec 1 := Scalar.xori v481 v482
  let c0_i32_334 : BitVec 32 := 0#32
  let v480 : BitVec 1 := Scalar.cmpi .ne v479 c0_i32_334
  let v484 : BitVec 1 := Scalar.andi v483 v480
  let v485 : BitVec 32 := Scalar.addi v479 v478
  let v486 : BitVec 32 := Scalar.select v484 v485 v479
  let c1_i32_341 : BitVec 32 := 1#32
  let v488 : BitVec 32 := Scalar.muli v486 c1_i32_341
  let v489 : BitVec 32 := Scalar.addi c0_i32_342 v488
  v489.toNat
def k0_dev36 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_346 : BitVec 32 := 5#32
  let v497 : BitVec 32 := Scalar.addi v2 c5_i32_346
  let c32_i32_347 : BitVec 32 := 32#32
  let c0_i32_348 : BitVec 32 := 0#32
  let v498 : BitVec 1 := Scalar.cmpi .eq c32_i32_347 c0_i32_348
  let c1_i32_349 : BitVec 32 := 1#32
  let v499 : BitVec 32 := Scalar.select v498 c1_i32_349 c32_i32_347
  let v500 : BitVec 32 := Scalar.remsi v497 v499
  let c0_i32_351 : BitVec 32 := 0#32
  let v502 : BitVec 1 := Scalar.cmpi .slt v500 c0_i32_351
  let c0_i32_352 : BitVec 32 := 0#32
  let v503 : BitVec 1 := Scalar.cmpi .slt v499 c0_i32_352
  let v504 : BitVec 1 := Scalar.xori v502 v503
  let c0_i32_350 : BitVec 32 := 0#32
  let v501 : BitVec 1 := Scalar.cmpi .ne v500 c0_i32_350
  let v505 : BitVec 1 := Scalar.andi v504 v501
  let v506 : BitVec 32 := Scalar.addi v500 v499
  let v507 : BitVec 32 := Scalar.select v505 v506 v500
  let c1_i32_357 : BitVec 32 := 1#32
  let v509 : BitVec 32 := Scalar.muli v507 c1_i32_357
  let v510 : BitVec 32 := Scalar.addi c0_i32_358 v509
  v510.toNat
def k0_dev37 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_362 : BitVec 32 := 6#32
  let v518 : BitVec 32 := Scalar.addi v2 c6_i32_362
  let c32_i32_363 : BitVec 32 := 32#32
  let c0_i32_364 : BitVec 32 := 0#32
  let v519 : BitVec 1 := Scalar.cmpi .eq c32_i32_363 c0_i32_364
  let c1_i32_365 : BitVec 32 := 1#32
  let v520 : BitVec 32 := Scalar.select v519 c1_i32_365 c32_i32_363
  let v521 : BitVec 32 := Scalar.remsi v518 v520
  let c0_i32_367 : BitVec 32 := 0#32
  let v523 : BitVec 1 := Scalar.cmpi .slt v521 c0_i32_367
  let c0_i32_368 : BitVec 32 := 0#32
  let v524 : BitVec 1 := Scalar.cmpi .slt v520 c0_i32_368
  let v525 : BitVec 1 := Scalar.xori v523 v524
  let c0_i32_366 : BitVec 32 := 0#32
  let v522 : BitVec 1 := Scalar.cmpi .ne v521 c0_i32_366
  let v526 : BitVec 1 := Scalar.andi v525 v522
  let v527 : BitVec 32 := Scalar.addi v521 v520
  let v528 : BitVec 32 := Scalar.select v526 v527 v521
  let c1_i32_373 : BitVec 32 := 1#32
  let v530 : BitVec 32 := Scalar.muli v528 c1_i32_373
  let v531 : BitVec 32 := Scalar.addi c0_i32_374 v530
  v531.toNat
def k0_dev38 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_378 : BitVec 32 := 7#32
  let v539 : BitVec 32 := Scalar.addi v2 c7_i32_378
  let c32_i32_379 : BitVec 32 := 32#32
  let c0_i32_380 : BitVec 32 := 0#32
  let v540 : BitVec 1 := Scalar.cmpi .eq c32_i32_379 c0_i32_380
  let c1_i32_381 : BitVec 32 := 1#32
  let v541 : BitVec 32 := Scalar.select v540 c1_i32_381 c32_i32_379
  let v542 : BitVec 32 := Scalar.remsi v539 v541
  let c0_i32_383 : BitVec 32 := 0#32
  let v544 : BitVec 1 := Scalar.cmpi .slt v542 c0_i32_383
  let c0_i32_384 : BitVec 32 := 0#32
  let v545 : BitVec 1 := Scalar.cmpi .slt v541 c0_i32_384
  let v546 : BitVec 1 := Scalar.xori v544 v545
  let c0_i32_382 : BitVec 32 := 0#32
  let v543 : BitVec 1 := Scalar.cmpi .ne v542 c0_i32_382
  let v547 : BitVec 1 := Scalar.andi v546 v543
  let v548 : BitVec 32 := Scalar.addi v542 v541
  let v549 : BitVec 32 := Scalar.select v547 v548 v542
  let c1_i32_389 : BitVec 32 := 1#32
  let v551 : BitVec 32 := Scalar.muli v549 c1_i32_389
  let v552 : BitVec 32 := Scalar.addi c0_i32_390 v551
  v552.toNat
def k0_dev39 (d0 : Dev nD) : Nat :=
  let c0_i32_406 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_394 : BitVec 32 := 8#32
  let v560 : BitVec 32 := Scalar.addi v2 c8_i32_394
  let c32_i32_395 : BitVec 32 := 32#32
  let c0_i32_396 : BitVec 32 := 0#32
  let v561 : BitVec 1 := Scalar.cmpi .eq c32_i32_395 c0_i32_396
  let c1_i32_397 : BitVec 32 := 1#32
  let v562 : BitVec 32 := Scalar.select v561 c1_i32_397 c32_i32_395
  let v563 : BitVec 32 := Scalar.remsi v560 v562
  let c0_i32_399 : BitVec 32 := 0#32
  let v565 : BitVec 1 := Scalar.cmpi .slt v563 c0_i32_399
  let c0_i32_400 : BitVec 32 := 0#32
  let v566 : BitVec 1 := Scalar.cmpi .slt v562 c0_i32_400
  let v567 : BitVec 1 := Scalar.xori v565 v566
  let c0_i32_398 : BitVec 32 := 0#32
  let v564 : BitVec 1 := Scalar.cmpi .ne v563 c0_i32_398
  let v568 : BitVec 1 := Scalar.andi v567 v564
  let v569 : BitVec 32 := Scalar.addi v563 v562
  let v570 : BitVec 32 := Scalar.select v568 v569 v563
  let c1_i32_405 : BitVec 32 := 1#32
  let v572 : BitVec 32 := Scalar.muli v570 c1_i32_405
  let v573 : BitVec 32 := Scalar.addi c0_i32_406 v572
  v573.toNat
def k0_dev40 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_410 : BitVec 32 := 9#32
  let v581 : BitVec 32 := Scalar.addi v2 c9_i32_410
  let c32_i32_411 : BitVec 32 := 32#32
  let c0_i32_412 : BitVec 32 := 0#32
  let v582 : BitVec 1 := Scalar.cmpi .eq c32_i32_411 c0_i32_412
  let c1_i32_413 : BitVec 32 := 1#32
  let v583 : BitVec 32 := Scalar.select v582 c1_i32_413 c32_i32_411
  let v584 : BitVec 32 := Scalar.remsi v581 v583
  let c0_i32_415 : BitVec 32 := 0#32
  let v586 : BitVec 1 := Scalar.cmpi .slt v584 c0_i32_415
  let c0_i32_416 : BitVec 32 := 0#32
  let v587 : BitVec 1 := Scalar.cmpi .slt v583 c0_i32_416
  let v588 : BitVec 1 := Scalar.xori v586 v587
  let c0_i32_414 : BitVec 32 := 0#32
  let v585 : BitVec 1 := Scalar.cmpi .ne v584 c0_i32_414
  let v589 : BitVec 1 := Scalar.andi v588 v585
  let v590 : BitVec 32 := Scalar.addi v584 v583
  let v591 : BitVec 32 := Scalar.select v589 v590 v584
  let c1_i32_421 : BitVec 32 := 1#32
  let v593 : BitVec 32 := Scalar.muli v591 c1_i32_421
  let v594 : BitVec 32 := Scalar.addi c0_i32_422 v593
  v594.toNat
def k0_dev41 (d0 : Dev nD) : Nat :=
  let c0_i32_438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_426 : BitVec 32 := 10#32
  let v602 : BitVec 32 := Scalar.addi v2 c10_i32_426
  let c32_i32_427 : BitVec 32 := 32#32
  let c0_i32_428 : BitVec 32 := 0#32
  let v603 : BitVec 1 := Scalar.cmpi .eq c32_i32_427 c0_i32_428
  let c1_i32_429 : BitVec 32 := 1#32
  let v604 : BitVec 32 := Scalar.select v603 c1_i32_429 c32_i32_427
  let v605 : BitVec 32 := Scalar.remsi v602 v604
  let c0_i32_431 : BitVec 32 := 0#32
  let v607 : BitVec 1 := Scalar.cmpi .slt v605 c0_i32_431
  let c0_i32_432 : BitVec 32 := 0#32
  let v608 : BitVec 1 := Scalar.cmpi .slt v604 c0_i32_432
  let v609 : BitVec 1 := Scalar.xori v607 v608
  let c0_i32_430 : BitVec 32 := 0#32
  let v606 : BitVec 1 := Scalar.cmpi .ne v605 c0_i32_430
  let v610 : BitVec 1 := Scalar.andi v609 v606
  let v611 : BitVec 32 := Scalar.addi v605 v604
  let v612 : BitVec 32 := Scalar.select v610 v611 v605
  let c1_i32_437 : BitVec 32 := 1#32
  let v614 : BitVec 32 := Scalar.muli v612 c1_i32_437
  let v615 : BitVec 32 := Scalar.addi c0_i32_438 v614
  v615.toNat
def k0_dev42 (d0 : Dev nD) : Nat :=
  let c0_i32_454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_442 : BitVec 32 := 11#32
  let v623 : BitVec 32 := Scalar.addi v2 c11_i32_442
  let c32_i32_443 : BitVec 32 := 32#32
  let c0_i32_444 : BitVec 32 := 0#32
  let v624 : BitVec 1 := Scalar.cmpi .eq c32_i32_443 c0_i32_444
  let c1_i32_445 : BitVec 32 := 1#32
  let v625 : BitVec 32 := Scalar.select v624 c1_i32_445 c32_i32_443
  let v626 : BitVec 32 := Scalar.remsi v623 v625
  let c0_i32_447 : BitVec 32 := 0#32
  let v628 : BitVec 1 := Scalar.cmpi .slt v626 c0_i32_447
  let c0_i32_448 : BitVec 32 := 0#32
  let v629 : BitVec 1 := Scalar.cmpi .slt v625 c0_i32_448
  let v630 : BitVec 1 := Scalar.xori v628 v629
  let c0_i32_446 : BitVec 32 := 0#32
  let v627 : BitVec 1 := Scalar.cmpi .ne v626 c0_i32_446
  let v631 : BitVec 1 := Scalar.andi v630 v627
  let v632 : BitVec 32 := Scalar.addi v626 v625
  let v633 : BitVec 32 := Scalar.select v631 v632 v626
  let c1_i32_453 : BitVec 32 := 1#32
  let v635 : BitVec 32 := Scalar.muli v633 c1_i32_453
  let v636 : BitVec 32 := Scalar.addi c0_i32_454 v635
  v636.toNat
def k0_dev43 (d0 : Dev nD) : Nat :=
  let c0_i32_470 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_458 : BitVec 32 := 12#32
  let v644 : BitVec 32 := Scalar.addi v2 c12_i32_458
  let c32_i32_459 : BitVec 32 := 32#32
  let c0_i32_460 : BitVec 32 := 0#32
  let v645 : BitVec 1 := Scalar.cmpi .eq c32_i32_459 c0_i32_460
  let c1_i32_461 : BitVec 32 := 1#32
  let v646 : BitVec 32 := Scalar.select v645 c1_i32_461 c32_i32_459
  let v647 : BitVec 32 := Scalar.remsi v644 v646
  let c0_i32_463 : BitVec 32 := 0#32
  let v649 : BitVec 1 := Scalar.cmpi .slt v647 c0_i32_463
  let c0_i32_464 : BitVec 32 := 0#32
  let v650 : BitVec 1 := Scalar.cmpi .slt v646 c0_i32_464
  let v651 : BitVec 1 := Scalar.xori v649 v650
  let c0_i32_462 : BitVec 32 := 0#32
  let v648 : BitVec 1 := Scalar.cmpi .ne v647 c0_i32_462
  let v652 : BitVec 1 := Scalar.andi v651 v648
  let v653 : BitVec 32 := Scalar.addi v647 v646
  let v654 : BitVec 32 := Scalar.select v652 v653 v647
  let c1_i32_469 : BitVec 32 := 1#32
  let v656 : BitVec 32 := Scalar.muli v654 c1_i32_469
  let v657 : BitVec 32 := Scalar.addi c0_i32_470 v656
  v657.toNat
def k0_dev44 (d0 : Dev nD) : Nat :=
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_474 : BitVec 32 := 13#32
  let v665 : BitVec 32 := Scalar.addi v2 c13_i32_474
  let c32_i32_475 : BitVec 32 := 32#32
  let c0_i32_476 : BitVec 32 := 0#32
  let v666 : BitVec 1 := Scalar.cmpi .eq c32_i32_475 c0_i32_476
  let c1_i32_477 : BitVec 32 := 1#32
  let v667 : BitVec 32 := Scalar.select v666 c1_i32_477 c32_i32_475
  let v668 : BitVec 32 := Scalar.remsi v665 v667
  let c0_i32_479 : BitVec 32 := 0#32
  let v670 : BitVec 1 := Scalar.cmpi .slt v668 c0_i32_479
  let c0_i32_480 : BitVec 32 := 0#32
  let v671 : BitVec 1 := Scalar.cmpi .slt v667 c0_i32_480
  let v672 : BitVec 1 := Scalar.xori v670 v671
  let c0_i32_478 : BitVec 32 := 0#32
  let v669 : BitVec 1 := Scalar.cmpi .ne v668 c0_i32_478
  let v673 : BitVec 1 := Scalar.andi v672 v669
  let v674 : BitVec 32 := Scalar.addi v668 v667
  let v675 : BitVec 32 := Scalar.select v673 v674 v668
  let c1_i32_485 : BitVec 32 := 1#32
  let v677 : BitVec 32 := Scalar.muli v675 c1_i32_485
  let v678 : BitVec 32 := Scalar.addi c0_i32_486 v677
  v678.toNat
def k0_dev45 (d0 : Dev nD) : Nat :=
  let c0_i32_502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_490 : BitVec 32 := 14#32
  let v686 : BitVec 32 := Scalar.addi v2 c14_i32_490
  let c32_i32_491 : BitVec 32 := 32#32
  let c0_i32_492 : BitVec 32 := 0#32
  let v687 : BitVec 1 := Scalar.cmpi .eq c32_i32_491 c0_i32_492
  let c1_i32_493 : BitVec 32 := 1#32
  let v688 : BitVec 32 := Scalar.select v687 c1_i32_493 c32_i32_491
  let v689 : BitVec 32 := Scalar.remsi v686 v688
  let c0_i32_495 : BitVec 32 := 0#32
  let v691 : BitVec 1 := Scalar.cmpi .slt v689 c0_i32_495
  let c0_i32_496 : BitVec 32 := 0#32
  let v692 : BitVec 1 := Scalar.cmpi .slt v688 c0_i32_496
  let v693 : BitVec 1 := Scalar.xori v691 v692
  let c0_i32_494 : BitVec 32 := 0#32
  let v690 : BitVec 1 := Scalar.cmpi .ne v689 c0_i32_494
  let v694 : BitVec 1 := Scalar.andi v693 v690
  let v695 : BitVec 32 := Scalar.addi v689 v688
  let v696 : BitVec 32 := Scalar.select v694 v695 v689
  let c1_i32_501 : BitVec 32 := 1#32
  let v698 : BitVec 32 := Scalar.muli v696 c1_i32_501
  let v699 : BitVec 32 := Scalar.addi c0_i32_502 v698
  v699.toNat
def k0_dev46 (d0 : Dev nD) : Nat :=
  let c0_i32_518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_506 : BitVec 32 := 15#32
  let v707 : BitVec 32 := Scalar.addi v2 c15_i32_506
  let c32_i32_507 : BitVec 32 := 32#32
  let c0_i32_508 : BitVec 32 := 0#32
  let v708 : BitVec 1 := Scalar.cmpi .eq c32_i32_507 c0_i32_508
  let c1_i32_509 : BitVec 32 := 1#32
  let v709 : BitVec 32 := Scalar.select v708 c1_i32_509 c32_i32_507
  let v710 : BitVec 32 := Scalar.remsi v707 v709
  let c0_i32_511 : BitVec 32 := 0#32
  let v712 : BitVec 1 := Scalar.cmpi .slt v710 c0_i32_511
  let c0_i32_512 : BitVec 32 := 0#32
  let v713 : BitVec 1 := Scalar.cmpi .slt v709 c0_i32_512
  let v714 : BitVec 1 := Scalar.xori v712 v713
  let c0_i32_510 : BitVec 32 := 0#32
  let v711 : BitVec 1 := Scalar.cmpi .ne v710 c0_i32_510
  let v715 : BitVec 1 := Scalar.andi v714 v711
  let v716 : BitVec 32 := Scalar.addi v710 v709
  let v717 : BitVec 32 := Scalar.select v715 v716 v710
  let c1_i32_517 : BitVec 32 := 1#32
  let v719 : BitVec 32 := Scalar.muli v717 c1_i32_517
  let v720 : BitVec 32 := Scalar.addi c0_i32_518 v719
  v720.toNat
def k0_dev47 (d0 : Dev nD) : Nat :=
  let c0_i32_534 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_522 : BitVec 32 := 16#32
  let v728 : BitVec 32 := Scalar.addi v2 c16_i32_522
  let c32_i32_523 : BitVec 32 := 32#32
  let c0_i32_524 : BitVec 32 := 0#32
  let v729 : BitVec 1 := Scalar.cmpi .eq c32_i32_523 c0_i32_524
  let c1_i32_525 : BitVec 32 := 1#32
  let v730 : BitVec 32 := Scalar.select v729 c1_i32_525 c32_i32_523
  let v731 : BitVec 32 := Scalar.remsi v728 v730
  let c0_i32_527 : BitVec 32 := 0#32
  let v733 : BitVec 1 := Scalar.cmpi .slt v731 c0_i32_527
  let c0_i32_528 : BitVec 32 := 0#32
  let v734 : BitVec 1 := Scalar.cmpi .slt v730 c0_i32_528
  let v735 : BitVec 1 := Scalar.xori v733 v734
  let c0_i32_526 : BitVec 32 := 0#32
  let v732 : BitVec 1 := Scalar.cmpi .ne v731 c0_i32_526
  let v736 : BitVec 1 := Scalar.andi v735 v732
  let v737 : BitVec 32 := Scalar.addi v731 v730
  let v738 : BitVec 32 := Scalar.select v736 v737 v731
  let c1_i32_533 : BitVec 32 := 1#32
  let v740 : BitVec 32 := Scalar.muli v738 c1_i32_533
  let v741 : BitVec 32 := Scalar.addi c0_i32_534 v740
  v741.toNat
def k0_dev48 (d0 : Dev nD) : Nat :=
  let c0_i32_550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_538 : BitVec 32 := 17#32
  let v749 : BitVec 32 := Scalar.addi v2 c17_i32_538
  let c32_i32_539 : BitVec 32 := 32#32
  let c0_i32_540 : BitVec 32 := 0#32
  let v750 : BitVec 1 := Scalar.cmpi .eq c32_i32_539 c0_i32_540
  let c1_i32_541 : BitVec 32 := 1#32
  let v751 : BitVec 32 := Scalar.select v750 c1_i32_541 c32_i32_539
  let v752 : BitVec 32 := Scalar.remsi v749 v751
  let c0_i32_543 : BitVec 32 := 0#32
  let v754 : BitVec 1 := Scalar.cmpi .slt v752 c0_i32_543
  let c0_i32_544 : BitVec 32 := 0#32
  let v755 : BitVec 1 := Scalar.cmpi .slt v751 c0_i32_544
  let v756 : BitVec 1 := Scalar.xori v754 v755
  let c0_i32_542 : BitVec 32 := 0#32
  let v753 : BitVec 1 := Scalar.cmpi .ne v752 c0_i32_542
  let v757 : BitVec 1 := Scalar.andi v756 v753
  let v758 : BitVec 32 := Scalar.addi v752 v751
  let v759 : BitVec 32 := Scalar.select v757 v758 v752
  let c1_i32_549 : BitVec 32 := 1#32
  let v761 : BitVec 32 := Scalar.muli v759 c1_i32_549
  let v762 : BitVec 32 := Scalar.addi c0_i32_550 v761
  v762.toNat
def k0_dev49 (d0 : Dev nD) : Nat :=
  let c0_i32_566 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_554 : BitVec 32 := 18#32
  let v770 : BitVec 32 := Scalar.addi v2 c18_i32_554
  let c32_i32_555 : BitVec 32 := 32#32
  let c0_i32_556 : BitVec 32 := 0#32
  let v771 : BitVec 1 := Scalar.cmpi .eq c32_i32_555 c0_i32_556
  let c1_i32_557 : BitVec 32 := 1#32
  let v772 : BitVec 32 := Scalar.select v771 c1_i32_557 c32_i32_555
  let v773 : BitVec 32 := Scalar.remsi v770 v772
  let c0_i32_559 : BitVec 32 := 0#32
  let v775 : BitVec 1 := Scalar.cmpi .slt v773 c0_i32_559
  let c0_i32_560 : BitVec 32 := 0#32
  let v776 : BitVec 1 := Scalar.cmpi .slt v772 c0_i32_560
  let v777 : BitVec 1 := Scalar.xori v775 v776
  let c0_i32_558 : BitVec 32 := 0#32
  let v774 : BitVec 1 := Scalar.cmpi .ne v773 c0_i32_558
  let v778 : BitVec 1 := Scalar.andi v777 v774
  let v779 : BitVec 32 := Scalar.addi v773 v772
  let v780 : BitVec 32 := Scalar.select v778 v779 v773
  let c1_i32_565 : BitVec 32 := 1#32
  let v782 : BitVec 32 := Scalar.muli v780 c1_i32_565
  let v783 : BitVec 32 := Scalar.addi c0_i32_566 v782
  v783.toNat
def k0_dev50 (d0 : Dev nD) : Nat :=
  let c0_i32_582 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_570 : BitVec 32 := 19#32
  let v791 : BitVec 32 := Scalar.addi v2 c19_i32_570
  let c32_i32_571 : BitVec 32 := 32#32
  let c0_i32_572 : BitVec 32 := 0#32
  let v792 : BitVec 1 := Scalar.cmpi .eq c32_i32_571 c0_i32_572
  let c1_i32_573 : BitVec 32 := 1#32
  let v793 : BitVec 32 := Scalar.select v792 c1_i32_573 c32_i32_571
  let v794 : BitVec 32 := Scalar.remsi v791 v793
  let c0_i32_575 : BitVec 32 := 0#32
  let v796 : BitVec 1 := Scalar.cmpi .slt v794 c0_i32_575
  let c0_i32_576 : BitVec 32 := 0#32
  let v797 : BitVec 1 := Scalar.cmpi .slt v793 c0_i32_576
  let v798 : BitVec 1 := Scalar.xori v796 v797
  let c0_i32_574 : BitVec 32 := 0#32
  let v795 : BitVec 1 := Scalar.cmpi .ne v794 c0_i32_574
  let v799 : BitVec 1 := Scalar.andi v798 v795
  let v800 : BitVec 32 := Scalar.addi v794 v793
  let v801 : BitVec 32 := Scalar.select v799 v800 v794
  let c1_i32_581 : BitVec 32 := 1#32
  let v803 : BitVec 32 := Scalar.muli v801 c1_i32_581
  let v804 : BitVec 32 := Scalar.addi c0_i32_582 v803
  v804.toNat
def k0_dev51 (d0 : Dev nD) : Nat :=
  let c0_i32_598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_586 : BitVec 32 := 20#32
  let v812 : BitVec 32 := Scalar.addi v2 c20_i32_586
  let c32_i32_587 : BitVec 32 := 32#32
  let c0_i32_588 : BitVec 32 := 0#32
  let v813 : BitVec 1 := Scalar.cmpi .eq c32_i32_587 c0_i32_588
  let c1_i32_589 : BitVec 32 := 1#32
  let v814 : BitVec 32 := Scalar.select v813 c1_i32_589 c32_i32_587
  let v815 : BitVec 32 := Scalar.remsi v812 v814
  let c0_i32_591 : BitVec 32 := 0#32
  let v817 : BitVec 1 := Scalar.cmpi .slt v815 c0_i32_591
  let c0_i32_592 : BitVec 32 := 0#32
  let v818 : BitVec 1 := Scalar.cmpi .slt v814 c0_i32_592
  let v819 : BitVec 1 := Scalar.xori v817 v818
  let c0_i32_590 : BitVec 32 := 0#32
  let v816 : BitVec 1 := Scalar.cmpi .ne v815 c0_i32_590
  let v820 : BitVec 1 := Scalar.andi v819 v816
  let v821 : BitVec 32 := Scalar.addi v815 v814
  let v822 : BitVec 32 := Scalar.select v820 v821 v815
  let c1_i32_597 : BitVec 32 := 1#32
  let v824 : BitVec 32 := Scalar.muli v822 c1_i32_597
  let v825 : BitVec 32 := Scalar.addi c0_i32_598 v824
  v825.toNat
def k0_dev52 (d0 : Dev nD) : Nat :=
  let c0_i32_614 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_602 : BitVec 32 := 21#32
  let v833 : BitVec 32 := Scalar.addi v2 c21_i32_602
  let c32_i32_603 : BitVec 32 := 32#32
  let c0_i32_604 : BitVec 32 := 0#32
  let v834 : BitVec 1 := Scalar.cmpi .eq c32_i32_603 c0_i32_604
  let c1_i32_605 : BitVec 32 := 1#32
  let v835 : BitVec 32 := Scalar.select v834 c1_i32_605 c32_i32_603
  let v836 : BitVec 32 := Scalar.remsi v833 v835
  let c0_i32_607 : BitVec 32 := 0#32
  let v838 : BitVec 1 := Scalar.cmpi .slt v836 c0_i32_607
  let c0_i32_608 : BitVec 32 := 0#32
  let v839 : BitVec 1 := Scalar.cmpi .slt v835 c0_i32_608
  let v840 : BitVec 1 := Scalar.xori v838 v839
  let c0_i32_606 : BitVec 32 := 0#32
  let v837 : BitVec 1 := Scalar.cmpi .ne v836 c0_i32_606
  let v841 : BitVec 1 := Scalar.andi v840 v837
  let v842 : BitVec 32 := Scalar.addi v836 v835
  let v843 : BitVec 32 := Scalar.select v841 v842 v836
  let c1_i32_613 : BitVec 32 := 1#32
  let v845 : BitVec 32 := Scalar.muli v843 c1_i32_613
  let v846 : BitVec 32 := Scalar.addi c0_i32_614 v845
  v846.toNat
def k0_dev53 (d0 : Dev nD) : Nat :=
  let c0_i32_630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_618 : BitVec 32 := 22#32
  let v854 : BitVec 32 := Scalar.addi v2 c22_i32_618
  let c32_i32_619 : BitVec 32 := 32#32
  let c0_i32_620 : BitVec 32 := 0#32
  let v855 : BitVec 1 := Scalar.cmpi .eq c32_i32_619 c0_i32_620
  let c1_i32_621 : BitVec 32 := 1#32
  let v856 : BitVec 32 := Scalar.select v855 c1_i32_621 c32_i32_619
  let v857 : BitVec 32 := Scalar.remsi v854 v856
  let c0_i32_623 : BitVec 32 := 0#32
  let v859 : BitVec 1 := Scalar.cmpi .slt v857 c0_i32_623
  let c0_i32_624 : BitVec 32 := 0#32
  let v860 : BitVec 1 := Scalar.cmpi .slt v856 c0_i32_624
  let v861 : BitVec 1 := Scalar.xori v859 v860
  let c0_i32_622 : BitVec 32 := 0#32
  let v858 : BitVec 1 := Scalar.cmpi .ne v857 c0_i32_622
  let v862 : BitVec 1 := Scalar.andi v861 v858
  let v863 : BitVec 32 := Scalar.addi v857 v856
  let v864 : BitVec 32 := Scalar.select v862 v863 v857
  let c1_i32_629 : BitVec 32 := 1#32
  let v866 : BitVec 32 := Scalar.muli v864 c1_i32_629
  let v867 : BitVec 32 := Scalar.addi c0_i32_630 v866
  v867.toNat
def k0_dev54 (d0 : Dev nD) : Nat :=
  let c0_i32_646 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_634 : BitVec 32 := 23#32
  let v875 : BitVec 32 := Scalar.addi v2 c23_i32_634
  let c32_i32_635 : BitVec 32 := 32#32
  let c0_i32_636 : BitVec 32 := 0#32
  let v876 : BitVec 1 := Scalar.cmpi .eq c32_i32_635 c0_i32_636
  let c1_i32_637 : BitVec 32 := 1#32
  let v877 : BitVec 32 := Scalar.select v876 c1_i32_637 c32_i32_635
  let v878 : BitVec 32 := Scalar.remsi v875 v877
  let c0_i32_639 : BitVec 32 := 0#32
  let v880 : BitVec 1 := Scalar.cmpi .slt v878 c0_i32_639
  let c0_i32_640 : BitVec 32 := 0#32
  let v881 : BitVec 1 := Scalar.cmpi .slt v877 c0_i32_640
  let v882 : BitVec 1 := Scalar.xori v880 v881
  let c0_i32_638 : BitVec 32 := 0#32
  let v879 : BitVec 1 := Scalar.cmpi .ne v878 c0_i32_638
  let v883 : BitVec 1 := Scalar.andi v882 v879
  let v884 : BitVec 32 := Scalar.addi v878 v877
  let v885 : BitVec 32 := Scalar.select v883 v884 v878
  let c1_i32_645 : BitVec 32 := 1#32
  let v887 : BitVec 32 := Scalar.muli v885 c1_i32_645
  let v888 : BitVec 32 := Scalar.addi c0_i32_646 v887
  v888.toNat
def k0_dev55 (d0 : Dev nD) : Nat :=
  let c0_i32_662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_650 : BitVec 32 := 24#32
  let v896 : BitVec 32 := Scalar.addi v2 c24_i32_650
  let c32_i32_651 : BitVec 32 := 32#32
  let c0_i32_652 : BitVec 32 := 0#32
  let v897 : BitVec 1 := Scalar.cmpi .eq c32_i32_651 c0_i32_652
  let c1_i32_653 : BitVec 32 := 1#32
  let v898 : BitVec 32 := Scalar.select v897 c1_i32_653 c32_i32_651
  let v899 : BitVec 32 := Scalar.remsi v896 v898
  let c0_i32_655 : BitVec 32 := 0#32
  let v901 : BitVec 1 := Scalar.cmpi .slt v899 c0_i32_655
  let c0_i32_656 : BitVec 32 := 0#32
  let v902 : BitVec 1 := Scalar.cmpi .slt v898 c0_i32_656
  let v903 : BitVec 1 := Scalar.xori v901 v902
  let c0_i32_654 : BitVec 32 := 0#32
  let v900 : BitVec 1 := Scalar.cmpi .ne v899 c0_i32_654
  let v904 : BitVec 1 := Scalar.andi v903 v900
  let v905 : BitVec 32 := Scalar.addi v899 v898
  let v906 : BitVec 32 := Scalar.select v904 v905 v899
  let c1_i32_661 : BitVec 32 := 1#32
  let v908 : BitVec 32 := Scalar.muli v906 c1_i32_661
  let v909 : BitVec 32 := Scalar.addi c0_i32_662 v908
  v909.toNat
def k0_dev56 (d0 : Dev nD) : Nat :=
  let c0_i32_678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_666 : BitVec 32 := 25#32
  let v917 : BitVec 32 := Scalar.addi v2 c25_i32_666
  let c32_i32_667 : BitVec 32 := 32#32
  let c0_i32_668 : BitVec 32 := 0#32
  let v918 : BitVec 1 := Scalar.cmpi .eq c32_i32_667 c0_i32_668
  let c1_i32_669 : BitVec 32 := 1#32
  let v919 : BitVec 32 := Scalar.select v918 c1_i32_669 c32_i32_667
  let v920 : BitVec 32 := Scalar.remsi v917 v919
  let c0_i32_671 : BitVec 32 := 0#32
  let v922 : BitVec 1 := Scalar.cmpi .slt v920 c0_i32_671
  let c0_i32_672 : BitVec 32 := 0#32
  let v923 : BitVec 1 := Scalar.cmpi .slt v919 c0_i32_672
  let v924 : BitVec 1 := Scalar.xori v922 v923
  let c0_i32_670 : BitVec 32 := 0#32
  let v921 : BitVec 1 := Scalar.cmpi .ne v920 c0_i32_670
  let v925 : BitVec 1 := Scalar.andi v924 v921
  let v926 : BitVec 32 := Scalar.addi v920 v919
  let v927 : BitVec 32 := Scalar.select v925 v926 v920
  let c1_i32_677 : BitVec 32 := 1#32
  let v929 : BitVec 32 := Scalar.muli v927 c1_i32_677
  let v930 : BitVec 32 := Scalar.addi c0_i32_678 v929
  v930.toNat
def k0_dev57 (d0 : Dev nD) : Nat :=
  let c0_i32_694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_682 : BitVec 32 := 26#32
  let v938 : BitVec 32 := Scalar.addi v2 c26_i32_682
  let c32_i32_683 : BitVec 32 := 32#32
  let c0_i32_684 : BitVec 32 := 0#32
  let v939 : BitVec 1 := Scalar.cmpi .eq c32_i32_683 c0_i32_684
  let c1_i32_685 : BitVec 32 := 1#32
  let v940 : BitVec 32 := Scalar.select v939 c1_i32_685 c32_i32_683
  let v941 : BitVec 32 := Scalar.remsi v938 v940
  let c0_i32_687 : BitVec 32 := 0#32
  let v943 : BitVec 1 := Scalar.cmpi .slt v941 c0_i32_687
  let c0_i32_688 : BitVec 32 := 0#32
  let v944 : BitVec 1 := Scalar.cmpi .slt v940 c0_i32_688
  let v945 : BitVec 1 := Scalar.xori v943 v944
  let c0_i32_686 : BitVec 32 := 0#32
  let v942 : BitVec 1 := Scalar.cmpi .ne v941 c0_i32_686
  let v946 : BitVec 1 := Scalar.andi v945 v942
  let v947 : BitVec 32 := Scalar.addi v941 v940
  let v948 : BitVec 32 := Scalar.select v946 v947 v941
  let c1_i32_693 : BitVec 32 := 1#32
  let v950 : BitVec 32 := Scalar.muli v948 c1_i32_693
  let v951 : BitVec 32 := Scalar.addi c0_i32_694 v950
  v951.toNat
def k0_dev58 (d0 : Dev nD) : Nat :=
  let c0_i32_710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_698 : BitVec 32 := 27#32
  let v959 : BitVec 32 := Scalar.addi v2 c27_i32_698
  let c32_i32_699 : BitVec 32 := 32#32
  let c0_i32_700 : BitVec 32 := 0#32
  let v960 : BitVec 1 := Scalar.cmpi .eq c32_i32_699 c0_i32_700
  let c1_i32_701 : BitVec 32 := 1#32
  let v961 : BitVec 32 := Scalar.select v960 c1_i32_701 c32_i32_699
  let v962 : BitVec 32 := Scalar.remsi v959 v961
  let c0_i32_703 : BitVec 32 := 0#32
  let v964 : BitVec 1 := Scalar.cmpi .slt v962 c0_i32_703
  let c0_i32_704 : BitVec 32 := 0#32
  let v965 : BitVec 1 := Scalar.cmpi .slt v961 c0_i32_704
  let v966 : BitVec 1 := Scalar.xori v964 v965
  let c0_i32_702 : BitVec 32 := 0#32
  let v963 : BitVec 1 := Scalar.cmpi .ne v962 c0_i32_702
  let v967 : BitVec 1 := Scalar.andi v966 v963
  let v968 : BitVec 32 := Scalar.addi v962 v961
  let v969 : BitVec 32 := Scalar.select v967 v968 v962
  let c1_i32_709 : BitVec 32 := 1#32
  let v971 : BitVec 32 := Scalar.muli v969 c1_i32_709
  let v972 : BitVec 32 := Scalar.addi c0_i32_710 v971
  v972.toNat
def k0_dev59 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_714 : BitVec 32 := 28#32
  let v980 : BitVec 32 := Scalar.addi v2 c28_i32_714
  let c32_i32_715 : BitVec 32 := 32#32
  let c0_i32_716 : BitVec 32 := 0#32
  let v981 : BitVec 1 := Scalar.cmpi .eq c32_i32_715 c0_i32_716
  let c1_i32_717 : BitVec 32 := 1#32
  let v982 : BitVec 32 := Scalar.select v981 c1_i32_717 c32_i32_715
  let v983 : BitVec 32 := Scalar.remsi v980 v982
  let c0_i32_719 : BitVec 32 := 0#32
  let v985 : BitVec 1 := Scalar.cmpi .slt v983 c0_i32_719
  let c0_i32_720 : BitVec 32 := 0#32
  let v986 : BitVec 1 := Scalar.cmpi .slt v982 c0_i32_720
  let v987 : BitVec 1 := Scalar.xori v985 v986
  let c0_i32_718 : BitVec 32 := 0#32
  let v984 : BitVec 1 := Scalar.cmpi .ne v983 c0_i32_718
  let v988 : BitVec 1 := Scalar.andi v987 v984
  let v989 : BitVec 32 := Scalar.addi v983 v982
  let v990 : BitVec 32 := Scalar.select v988 v989 v983
  let c1_i32_725 : BitVec 32 := 1#32
  let v992 : BitVec 32 := Scalar.muli v990 c1_i32_725
  let v993 : BitVec 32 := Scalar.addi c0_i32_726 v992
  v993.toNat
def k0_dev60 (d0 : Dev nD) : Nat :=
  let c0_i32_742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_730 : BitVec 32 := 29#32
  let v1001 : BitVec 32 := Scalar.addi v2 c29_i32_730
  let c32_i32_731 : BitVec 32 := 32#32
  let c0_i32_732 : BitVec 32 := 0#32
  let v1002 : BitVec 1 := Scalar.cmpi .eq c32_i32_731 c0_i32_732
  let c1_i32_733 : BitVec 32 := 1#32
  let v1003 : BitVec 32 := Scalar.select v1002 c1_i32_733 c32_i32_731
  let v1004 : BitVec 32 := Scalar.remsi v1001 v1003
  let c0_i32_735 : BitVec 32 := 0#32
  let v1006 : BitVec 1 := Scalar.cmpi .slt v1004 c0_i32_735
  let c0_i32_736 : BitVec 32 := 0#32
  let v1007 : BitVec 1 := Scalar.cmpi .slt v1003 c0_i32_736
  let v1008 : BitVec 1 := Scalar.xori v1006 v1007
  let c0_i32_734 : BitVec 32 := 0#32
  let v1005 : BitVec 1 := Scalar.cmpi .ne v1004 c0_i32_734
  let v1009 : BitVec 1 := Scalar.andi v1008 v1005
  let v1010 : BitVec 32 := Scalar.addi v1004 v1003
  let v1011 : BitVec 32 := Scalar.select v1009 v1010 v1004
  let c1_i32_741 : BitVec 32 := 1#32
  let v1013 : BitVec 32 := Scalar.muli v1011 c1_i32_741
  let v1014 : BitVec 32 := Scalar.addi c0_i32_742 v1013
  v1014.toNat
def k0_dev61 (d0 : Dev nD) : Nat :=
  let c0_i32_758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_746 : BitVec 32 := 30#32
  let v1022 : BitVec 32 := Scalar.addi v2 c30_i32_746
  let c32_i32_747 : BitVec 32 := 32#32
  let c0_i32_748 : BitVec 32 := 0#32
  let v1023 : BitVec 1 := Scalar.cmpi .eq c32_i32_747 c0_i32_748
  let c1_i32_749 : BitVec 32 := 1#32
  let v1024 : BitVec 32 := Scalar.select v1023 c1_i32_749 c32_i32_747
  let v1025 : BitVec 32 := Scalar.remsi v1022 v1024
  let c0_i32_751 : BitVec 32 := 0#32
  let v1027 : BitVec 1 := Scalar.cmpi .slt v1025 c0_i32_751
  let c0_i32_752 : BitVec 32 := 0#32
  let v1028 : BitVec 1 := Scalar.cmpi .slt v1024 c0_i32_752
  let v1029 : BitVec 1 := Scalar.xori v1027 v1028
  let c0_i32_750 : BitVec 32 := 0#32
  let v1026 : BitVec 1 := Scalar.cmpi .ne v1025 c0_i32_750
  let v1030 : BitVec 1 := Scalar.andi v1029 v1026
  let v1031 : BitVec 32 := Scalar.addi v1025 v1024
  let v1032 : BitVec 32 := Scalar.select v1030 v1031 v1025
  let c1_i32_757 : BitVec 32 := 1#32
  let v1034 : BitVec 32 := Scalar.muli v1032 c1_i32_757
  let v1035 : BitVec 32 := Scalar.addi c0_i32_758 v1034
  v1035.toNat
def k0_dev62 (d0 : Dev nD) : Nat :=
  let c0_i32_774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_762 : BitVec 32 := 31#32
  let v1043 : BitVec 32 := Scalar.addi v2 c31_i32_762
  let c32_i32_763 : BitVec 32 := 32#32
  let c0_i32_764 : BitVec 32 := 0#32
  let v1044 : BitVec 1 := Scalar.cmpi .eq c32_i32_763 c0_i32_764
  let c1_i32_765 : BitVec 32 := 1#32
  let v1045 : BitVec 32 := Scalar.select v1044 c1_i32_765 c32_i32_763
  let v1046 : BitVec 32 := Scalar.remsi v1043 v1045
  let c0_i32_767 : BitVec 32 := 0#32
  let v1048 : BitVec 1 := Scalar.cmpi .slt v1046 c0_i32_767
  let c0_i32_768 : BitVec 32 := 0#32
  let v1049 : BitVec 1 := Scalar.cmpi .slt v1045 c0_i32_768
  let v1050 : BitVec 1 := Scalar.xori v1048 v1049
  let c0_i32_766 : BitVec 32 := 0#32
  let v1047 : BitVec 1 := Scalar.cmpi .ne v1046 c0_i32_766
  let v1051 : BitVec 1 := Scalar.andi v1050 v1047
  let v1052 : BitVec 32 := Scalar.addi v1046 v1045
  let v1053 : BitVec 32 := Scalar.select v1051 v1052 v1046
  let c1_i32_773 : BitVec 32 := 1#32
  let v1055 : BitVec 32 := Scalar.muli v1053 c1_i32_773
  let v1056 : BitVec 32 := Scalar.addi c0_i32_774 v1055
  v1056.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_778 : BitVec 32 := 128#32
  let v1064 : BitVec 32 := Scalar.muli v2 c128_i32_778
  let v1065 : Index := Scalar.indexCast v1064
  let c0_779 : Index := 0#32
  ![v1065.toNat, 0]
def k0_off3 (d0 : Dev nD) (c0_i32_783 : BitVec 32) (c0_i32_784 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1070 : BitVec 32 := Scalar.addi v2 c0_i32_783
  let v1071 : BitVec 32 := Scalar.addi v1070 c0_i32_784
  let c32_i32_785 : BitVec 32 := 32#32
  let c0_i32_786 : BitVec 32 := 0#32
  let v1072 : BitVec 1 := Scalar.cmpi .eq c32_i32_785 c0_i32_786
  let c1_i32_787 : BitVec 32 := 1#32
  let v1073 : BitVec 32 := Scalar.select v1072 c1_i32_787 c32_i32_785
  let v1074 : BitVec 32 := Scalar.remsi v1071 v1073
  let c0_i32_789 : BitVec 32 := 0#32
  let v1076 : BitVec 1 := Scalar.cmpi .slt v1074 c0_i32_789
  let c0_i32_790 : BitVec 32 := 0#32
  let v1077 : BitVec 1 := Scalar.cmpi .slt v1073 c0_i32_790
  let v1078 : BitVec 1 := Scalar.xori v1076 v1077
  let c0_i32_788 : BitVec 32 := 0#32
  let v1075 : BitVec 1 := Scalar.cmpi .ne v1074 c0_i32_788
  let v1079 : BitVec 1 := Scalar.andi v1078 v1075
  let v1080 : BitVec 32 := Scalar.addi v1074 v1073
  let v1081 : BitVec 32 := Scalar.select v1079 v1080 v1074
  let c128_i32_791 : BitVec 32 := 128#32
  let v1082 : BitVec 32 := Scalar.muli v1081 c128_i32_791
  let c0_i32_797 : BitVec 32 := 0#32
  ![v1082.toNat, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.KernelIdeal.Prog.lean ====
/-
  The kernel body as a program of loops.

  The printed body is one straight line of statements.  Here it is written again as recursions over
  the peers and over the sixteen blocks of the product, and the two are shown to be the same program by
  unfolding definitions.  Everything proved later about the body is proved about this form.
-/
module

public import proofs.«01_k».proof.Proof.Gen.KernelIdeal.Skeleton
public import proofs.«01_k».proof.Proof.Gen.KernelIdeal.Points
public import Idealize.ShloMosaic.Lib.Pipeline.Regions

@[expose] public section

set_option maxRecDepth 65536

noncomputable section

namespace Cert.KernelIdeal.Body

open Idealize.ShloMosaic Idealize.ShloMosaic.TcCoe
open Idealize.SL Idealize.SL.Sem
open Cert.KernelIdeal.Gen

variable {F : FTy → Type} [FloatOps F]

/-- The effects of the body. -/
abbrev Eff (F : FTy → Type) : Type → Type := TpuEff nD τ sig (Elt F) Λ₀ .tc

/-! ## The buffers and the semaphores -/

abbrev xM : Memref sig .tc .vmem S4096x128 .f32 := Memref.whole cc0_stg0_0
abbrev wM : Memref sig .tc .hbm S4096x8192 .f32 := Memref.whole main_arg1
abbrev oM : Memref sig .tc .vmem S128x8192 .f32 := Memref.whole cc0_stg1_0
abbrev bM : Memref sig .tc .vmem S4096x128 .bf16 := Memref.whole cc0_scratch0
abbrev cM : Memref sig .tc .vmem S32x128x128 .bf16 := Memref.whole cc0_scratch1
abbrev kM : Memref sig .tc .vmem S3x256x8192 .f32 := Memref.whole cc0_scratch2

/-- The barrier's counter. -/
abbrev barS : Sem sig := (SemArray.scalar (sig.barrier 0 rfl) : Sems sig S_).sem

theorem inbS : ∀ n : Fin 32, ∀ a, (![n.val] : Fin 1 → Nat) a + S1.size a ≤ S32.size a := by decide
theorem inbC : ∀ n : Fin 32, ∀ a, (![n.val, 0, 0] : Fin 3 → Nat) a + S1x128x128.size a ≤ S32x128x128.size a := by decide
theorem wordsC : ∀ n : Fin 32, (Rect.unit (s := S32x128x128) ![n.val, 0, 0] S1x128x128.size (inbC n)).WholeWords (EltTy.packing .bf16) := by
  decide +kernel
theorem inbW : ∀ (k : Fin 3) (t : Fin 2), ∀ a, (![k.val, t.val] : Fin 2 → Nat) a + S1x1.size a ≤ S3x2.size a := by decide
theorem inbH : ∀ (k : Fin 3) (t : Fin 2), ∀ a, (![k.val, 128 * t.val, 0] : Fin 3 → Nat) a + S1x128x8192.size a ≤ S3x256x8192.size a := by decide
theorem inbK : ∀ k : Fin 3, ∀ a, (![k.val, 0, 0] : Fin 3 → Nat) a + S1x256x8192.size a ≤ S3x256x8192.size a := by decide

/-- The counter a send to the `n`-th peer credits at its source, -/
abbrev sendS (n : Fin 32) : DmaSem sig :=
  ((cc0_scratch4.slice (Rect.unit (s := S32) ![n.val] S1.size (inbS n))).squeeze S_ squeezes_S1_S_).sem
/-- the counter a block that lands in slot `n` credits, -/
abbrev recvS (n : Fin 32) : DmaSem sig :=
  ((cc0_scratch5.slice (Rect.unit (s := S32) ![n.val] S1.size (inbS n))).squeeze S_ squeezes_S1_S_).sem
/-- and the counter of the copies into half `t` of weight slot `k`. -/
abbrev wS (k : Fin 3) (t : Fin 2) : DmaSem sig :=
  ((cc0_scratch3.slice (Rect.unit (s := S3x2) ![k.val, t.val] S1x1.size (inbW k t))).squeeze S_ squeezes_S1x1_S_).sem

/-- Slot `n` of the landing buffer. -/
abbrev slot (n : Fin 32) : Memref sig .tc .vmem S128x128 .bf16 :=
  (cM.slice (Rect.unit (s := S32x128x128) ![n.val, 0, 0] S1x128x128.size (inbC n)) (fun _ => rfl)).squeeze S128x128 squeezes_S1x128x128_S128x128
/-- Half `t` of weight slot `k`. -/
abbrev half (k : Fin 3) (t : Fin 2) : Memref sig .tc .vmem S128x8192 .f32 :=
  (kM.slice (Rect.unit (s := S3x256x8192) ![k.val, 128 * t.val, 0] S1x128x8192.size (inbH k t)) (fun _ => rfl)).squeeze S128x8192 squeezes_S1x128x8192_S128x8192

theorem slot_words (n : Fin 32) : (slot n).view.WordExact :=
  ((Memref.isWhole_whole cc0_scratch1).wordExact_slice rfl _ (wordsC n)).reshape _ _

/-! ## The peers, as the kernel computes them -/

/-- The device `w` places after `d0`, in the kernel's arithmetic. -/
def devAt (d0 : Dev nD) (w : BitVec 32) : Nat :=
  let v2 : BitVec 32 := Scalar.remsi (Scalar.divsi (Dev.word d0) 1#32) 32#32
  let v6 : BitVec 32 := Scalar.select (Scalar.cmpi .eq 32#32 0#32) 1#32 32#32
  let v7 : BitVec 32 := Scalar.remsi (Scalar.addi v2 w) v6
  let v12 : BitVec 1 := Scalar.andi (Scalar.xori (Scalar.cmpi .slt v7 0#32) (Scalar.cmpi .slt v6 0#32)) (Scalar.cmpi .ne v7 0#32)
  let v14 : BitVec 32 := Scalar.select v12 (Scalar.addi v7 v6) v7
  (Scalar.addi 0#32 (Scalar.muli v14 1#32)).toNat

theorem devAt_eq : ∀ (d0 : Dev nD) (r : Fin 31), devAt d0 (BitVec.ofNat 32 (1 + r.val)) = (d0.val + (1 + r.val)) % 32 := by
  decide +kernel

theorem devAt_lt (d0 : Dev nD) (r : Fin 31) : devAt d0 (BitVec.ofNat 32 (1 + r.val)) < nD := by
  rw [devAt_eq]; exact Nat.mod_lt _ (by decide)

/-- The peers a device sends to: `r` stands for the device `1 + r` places on. -/
def peers : List (Fin 31) :=
  [0, 1, 2, 3, 4, 5, 6, 7, 8, 9, 10, 11, 12, 13, 14, 15, 16, 17, 18, 19, 20, 21, 22, 23, 24, 25, 26, 27, 28, 29, 30]

/-- `1 + r`, -/
abbrev up (r : Fin 31) : Fin 32 := ⟨1 + r.val, by omega⟩
/-- and `32 - (1 + r)`, the slot a block sent `1 + r` places on lands in. -/
abbrev dn (r : Fin 31) : Fin 32 := ⟨31 - r.val, by omega⟩

/-- The rows of the own block that go to the device `1 + r` places on. -/
abbrev srcOf (d0 : Dev nD) (r : Fin 31) : Memref sig .tc .vmem S128x128 .bf16 :=
  bM.slice (Rect.unit (s := S4096x128) (k0_off1 d0 (BitVec.ofNat 32 (1 + r.val))) S128x128.size (k0_off1_inb d0 r)) (fun _ => rfl)

theorem srcOf_words (d0 : Dev nD) (r : Fin 31) : (srcOf d0 r).view.WordExact :=
  (Memref.isWhole_whole cc0_scratch0).wordExact_slice rfl _ (k0_off1_wordsbf16 d0 r)

/-- The weight rows of half `t` of block `s`. -/
abbrev wOf (d0 : Dev nD) (s : Fin 16) (t : Fin 2) : Memref sig .tc .hbm S128x8192 .f32 :=
  wM.slice (Rect.unit (s := S4096x8192) (k0_off3 d0 (BitVec.ofNat 32 (2 * s.val)) (BitVec.ofNat 32 t.val)) S128x8192.size (k0_off3_inb d0 s t)) (fun _ => rfl)

/-! ## The program -/

section
variable {α : Type}

/-- Tell every peer of the list that this device has arrived. -/
def signals (d0 : Dev nD) : List (Fin 31) → Prog (Eff F) α → Prog (Eff F) α
  | [], k => k
  | r :: l, k => .op (.semSignal ((⟨devAt d0 (BitVec.ofNat 32 (1 + r.val)), devAt_lt d0 r⟩ : Dev nD), .tc) barS (1#32).toInt) fun _ => signals d0 l k

/-- Send every peer of the list its rows. -/
def sends (d0 : Dev nD) : List (Fin 31) → Prog (Eff F) α → Prog (Eff F) α
  | [], k => k
  | r :: l, k => .op (.enqueueDma (srcOf d0 r) (.remote (Dev.tc (⟨devAt d0 (BitVec.ofNat 32 (1 + r.val)), devAt_lt d0 r⟩ : Dev nD)) (slot (dn r)) (.dma (sendS (up r))))
      (.dma (recvS (dn r))) (srcOf_words d0 r) (slot_words (dn r)) ⟨⟨rfl, Or.inl rfl⟩, trivial⟩) fun _ => sends d0 l k

/-- Wait for every send of the list to have left. -/
def sendWaits (d0 : Dev nD) : List (Fin 31) → Prog (Eff F) α → Prog (Eff F) α
  | [], k => k
  | r :: l, k => .op (.waitDma2 (sendS (up r)) (slot (dn r)) (srcOf d0 r) (slot_words (dn r)) (srcOf_words d0 r)) fun _ => sendWaits d0 l k

theorem row0_words : (bM.slice (Rect.unit (s := S4096x128) ![0, 0] S128x128.size inb_S4096x128_S128x128_0_0) (fun _ => rfl)).view.WordExact :=
  (Memref.isWhole_whole cc0_scratch0).wordExact_slice rfl _ wordsbf16_S4096x128_S128x128_0_0

/-- Wait for slot `n` to have landed. -/
def recvWait (n : Fin 32) (k : Prog (Eff F) α) : Prog (Eff F) α :=
  .op (.waitDma2 (recvS n) (bM.slice (Rect.unit (s := S4096x128) ![0, 0] S128x128.size inb_S4096x128_S128x128_0_0) (fun _ => rfl)) (slot n) row0_words (slot_words n)) fun _ => k

/-- The weight slot block `s` uses. -/
abbrev slotOf (s : Fin 16) : Fin 3 := ⟨s.val % 3, Nat.mod_lt _ (by decide)⟩

theorem wOf_words (d0 : Dev nD) (s : Fin 16) (t : Fin 2) : (wOf d0 s t).view.WordExact := View.wordExact_bits rfl
theorem half_words (k : Fin 3) (t : Fin 2) : (half k t).view.WordExact := (View.wordExact_bits rfl).reshape _ _

/-- Start the copy of half `t` of weight block `s`. -/
def wStart (d0 : Dev nD) (s : Fin 16) (t : Fin 2) (k : Prog (Eff F) α) : Prog (Eff F) α :=
  .op (.enqueueDma (wOf d0 s t) (.here (half (slotOf s) t)) (.dma (wS (slotOf s) t)) (wOf_words d0 s t) (half_words (slotOf s) t) ⟨Or.inl rfl, trivial⟩) fun _ => k

/-- Wait for that copy. -/
def wWait (d0 : Dev nD) (s : Fin 16) (t : Fin 2) (k : Prog (Eff F) α) : Prog (Eff F) α :=
  .op (.waitDma2 (wS (slotOf s) t) (wOf d0 s t) (half (slotOf s) t) (wOf_words d0 s t) (half_words (slotOf s) t)) fun _ => k

/-- Read slot `n` of the landing buffer. -/
def slotLoad (n : Fin 32) (k : Vec F S1x128x128 .bf16 → Prog (Eff F) α) : Prog (Eff F) α :=
  .op (.load cM (Rect.unit (s := S32x128x128) ![n.val, 0, 0] S1x128x128.size (inbC n)).toLoadRect (View.loadsAt_vmem h_S1x128x128)) k

/-- Read weight slot `n`. -/
def wLoad (n : Fin 3) (k : Vec F S1x256x8192 .f32 → Prog (Eff F) α) : Prog (Eff F) α :=
  .op (.load kM (Rect.unit (s := S3x256x8192) ![n.val, 0, 0] S1x256x8192.size (inbK n)).toLoadRect (View.loadsAt_vmem h_S1x256x8192)) k

/-- Read the result's block, -/
def oLoad (k : Vec F S128x8192 .f32 → Prog (Eff F) α) : Prog (Eff F) α :=
  .op (.load oM (Rect.unit (s := S128x8192) ![0, 0] S128x8192.size inb_S128x8192_S128x8192_0_0).toLoadRect (View.loadsAt_vmem h_S128x8192)) k

/-- and write it. -/
def oStore (v : FVec F S128x8192 .f32) (k : Prog (Eff F) α) : Prog (Eff F) α :=
  .op (.store oM (Rect.unit (s := S128x8192) ![0, 0] S128x8192.size inb_S128x8192_S128x8192_0_0) v Finset.univ (View.stores_vmem_bits_univ h_S128x8192 rfl) (.inl rfl)) fun _ => k

/-- The two slots block `s` multiplies. -/
abbrev lo (s : Fin 16) : Fin 32 := ⟨2 * s.val, by omega⟩
abbrev hi (s : Fin 16) : Fin 32 := ⟨2 * s.val + 1, by omega⟩

/-- The part of block `s`, from the two slots and the weight slot, -/
def part (a b : Vec F S1x128x128 .bf16) (w : Vec F S1x256x8192 .f32) : FVec F S128x8192 .f32 := k0_pay3 a b w
/-- and the result with it added. -/
def accum (a b : Vec F S1x128x128 .bf16) (w : Vec F S1x256x8192 .f32) (o : Vec F S128x8192 .f32) : FVec F S128x8192 .f32 :=
  addf (shapeCast S128x8192 o shapeCasts_S128x8192_S128x8192) (part a b w)

/-- The waits and the product of a block after the first. -/
def mulStep (d0 : Dev nD) (s : Fin 16) (k : Prog (Eff F) α) : Prog (Eff F) α :=
  recvWait (lo s) <| recvWait (hi s) <| wWait d0 s 0 <| wWait d0 s 1 <|
  slotLoad (lo s) fun a => slotLoad (hi s) fun b => wLoad (slotOf s) fun w => oLoad fun o => oLoad fun _ =>
  oStore (accum a b w o) k

/-- Blocks that also start the copy for the block two further on: `p.1` is the block, `p.2` the block started. -/
def mids (d0 : Dev nD) : List (Fin 16 × Fin 16) → Prog (Eff F) α → Prog (Eff F) α
  | [], k => k
  | p :: l, k => wStart d0 p.2 0 <| wStart d0 p.2 1 <| mulStep d0 p.1 <| mids d0 l k

/-- The blocks 1 to 13. -/
def midList : List (Fin 16 × Fin 16) :=
  [(1, 3), (2, 4), (3, 5), (4, 6), (5, 7), (6, 8), (7, 9), (8, 10), (9, 11), (10, 12), (11, 13), (12, 14), (13, 15)]

/-- The first block. -/
def first (d0 : Dev nD) (k : Prog (Eff F) α) : Prog (Eff F) α :=
  wStart d0 0 0 <| wStart d0 0 1 <| wStart d0 1 0 <| wStart d0 1 1 <| wStart d0 2 0 <| wStart d0 2 1 <|
  recvWait 1 <| wWait d0 0 0 <| wWait d0 0 1 <|
  slotLoad 0 fun a => slotLoad 1 fun b => wLoad 0 fun w => oLoad fun _ => oStore (part a b w) k

/-- The own block, rounded, into the send buffer. -/
def fillB (k : Prog (Eff F) α) : Prog (Eff F) α :=
  .op (.load xM (Rect.unit (s := S4096x128) ![0, 0] S4096x128.size inb_S4096x128_S4096x128_0_0).toLoadRect (View.loadsAt_vmem h_S4096x128)) fun v =>
  .op (.load bM (Rect.unit (s := S4096x128) ![0, 0] S4096x128.size inb_S4096x128_S4096x128_0_0).toLoadRect (View.loadsAt_vmem h_S4096x128)) fun _ =>
  .op (.store bM (Rect.unit (s := S4096x128) ![0, 0] S4096x128.size inb_S4096x128_S4096x128_0_0) (k0_pay1 v) Finset.univ
    (View.stores_vmem h_S4096x128 ((Memref.isWhole_whole cc0_scratch0).storeExact_slice rfl _ packedbf16_S4096x128_S4096x128_0_0) (fun _ => rfl)) (.inl rfl)) fun _ => k

/-- The own rows into slot 0 of the landing buffer. -/
def fillC (d0 : Dev nD) (k : Prog (Eff F) α) : Prog (Eff F) α :=
  .op (.load bM (Rect.unit (s := S4096x128) (k0_off2 d0) S128x128.size (k0_off2_inb d0)).toLoadRect (View.loadsAt_vmem h_S128x128)) fun v =>
  slotLoad 0 fun _ =>
  .op (.store cM (Rect.unit (s := S32x128x128) ![0, 0, 0] S1x128x128.size inb_S32x128x128_S1x128x128_0_0_0) (k0_pay2 v) Finset.univ
    (View.stores_vmem h_S1x128x128 ((Memref.isWhole_whole cc0_scratch1).storeExact_slice rfl _ packedbf16_S32x128x128_S1x128x128_0_0_0) (fun _ => rfl)) (.inl rfl)) fun _ => k

/-- The last pass over the result: the larger of it and zero. -/
def relu (k : Prog (Eff F) α) : Prog (Eff F) α :=
  oLoad fun v => oLoad fun _ => oStore (k0_pay28 v) k

end

/-- The whole body. -/
def prog : Prog (Eff F) PUnit :=
  .op .deviceId fun d0 =>
  signals d0 peers <| .op (.semWait barS (31#32).toInt) fun _ =>
  fillB <| sends d0 peers <| fillC d0 <| first d0 <| mids d0 midList <| mulStep d0 14 <| mulStep d0 15 <|
  relu <| sendWaits d0 peers <| .ret ⟨⟩

/-- The printed body is this program. -/
theorem body_eq (h0 : xM.IsWhole) (h1 : wM.IsWhole) (h2 : oM.IsWhole) (h3 : bM.IsWhole) (h4 : cM.IsWhole) (h5 : kM.IsWhole) :
    (cc0_body_skel xM h0 wM h1 oM h2 bM h3 cM h4 kM h5 cc0_scratch3 cc0_scratch4 cc0_scratch5 : Prog (Eff F) PUnit) = prog := by
  chain_rfl

end Cert.KernelIdeal.Body

end
-- ==== Proof.KernelIdeal.Proto.lean ====
/-
  The protocol of the kernel: which counter of which device is paid by whom, and what the payment hands over.

  Device `c` has one barrier counter and, for every other device, a counter for its own send to that device and a
  counter for the block that arrives from it.  `r : Fin 31` stands for the device `1 + r` places on (`nxt r c`).

  * The barrier counter of `c` is paid one unit by every other device.  The unit of the device `nxt r c` hands over the
    slot of that device's landing buffer which `c` will write.
  * The arrival counter of slot `n` is paid by the device `n` places on, and hands over the slot with its block in it.
  * The send counter is paid by the device itself, and hands its rows back.
-/
module

public import proofs.«01_k».proof.Proof.KernelIdeal.Prog
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Ring
public import Idealize.ShloMosaic.Lib.Pointwise.Index
public import Idealize.ShloMosaic.Lib.Tactic

@[expose] public section

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

/-! ## The resource algebra: the staging counters', this protocol's, and the local copies' -/

abbrev UB : Type := URounds (GSem nD τ sig) (Fin 31)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb

instance ER_landsIn : (ER (F := F)).LandsIn (upEmb : UEmb _ 𝕄) := by unfold ER embR; infer_instance

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The devices -/

set_option backward.proofsInPublic true in
/-- The device `n` places on. -/
def at' (n : ℕ) (c : Dev nD) : Dev nD := ⟨(c.val + n) % 32, Nat.mod_lt _ (by decide)⟩
/-- The device `1 + r` places on. -/
abbrev nxt (r : Fin 31) (c : Dev nD) : Dev nD := at' (1 + r.val) c

theorem at_at (a b : ℕ) (c : Dev nD) : at' a (at' b c) = at' (b + a) c := Fin.ext (by simp only [at']; omega)
theorem at_32 (c : Dev nD) : at' 32 c = c := Fin.ext (by have := c.isLt; simp only [at', nD] at *; omega)
theorem at_0 (c : Dev nD) : at' 0 c = c := Fin.ext (by have := c.isLt; simp only [at', nD] at *; omega)
theorem nxt_rev (r : Fin 31) (c : Dev nD) : nxt r.rev (nxt r c) = c := by
  rw [nxt, nxt, at_at, Fin.val_rev, show 1 + r.val + (1 + (31 - (r.val + 1))) = 32 by omega, at_32]
theorem nxt_rev' (r : Fin 31) (c : Dev nD) : nxt r (nxt r.rev c) = c := by
  have := nxt_rev r.rev c; rwa [Fin.rev_rev] at this
theorem dn_nxt (r : Fin 31) (c : Dev nD) : at' (dn r).val (nxt r c) = c := by
  rw [nxt, at_at, show 1 + r.val + (dn r).val = 32 by simp only; omega, at_32]

/-- Going round by `1 + r`. -/
def ring (r : Fin 31) : Dev nD ≃ Dev nD := ⟨nxt r, nxt r.rev, nxt_rev r, nxt_rev' r⟩

theorem dev_eq (c : Dev nD) (r : Fin 31) (h : devAt c (BitVec.ofNat 32 (1 + r.val)) < nD) :
    (⟨devAt c (BitVec.ofNat 32 (1 + r.val)), h⟩ : Dev nD) = nxt r c := Fin.ext (devAt_eq c r)

/-! ## The counters -/

abbrev barCell (c : Dev nD) : GSem nD τ sig := ((c : Thread nD τ), .reg barS)
abbrev sendCell (c : Dev nD) (r : Fin 31) : GSem nD τ sig := ((c : Thread nD τ), .dma (sendS (up r)))
abbrev recvCell (c : Dev nD) (n : Fin 32) : GSem nD τ sig := ((c : Thread nD τ), .dma (recvS n))

/-- What a counter is for. -/
inductive Role | bar | send (r : Fin 31) | recv (n : Fin 32) | other
  deriving DecidableEq

/-- Read off its place. -/
def role : SemLoc sig → Role
  | .reg _ => .bar
  | .dma q => if h : 9 ≤ q.val ∧ q.val ≤ 39 then .send ⟨q.val - 9, by omega⟩
      else if h : 41 ≤ q.val ∧ q.val ≤ 71 then .recv ⟨q.val - 40, by omega⟩ else .other

theorem role_bar : role (.reg barS) = .bar := rfl
theorem role_send (r : Fin 31) : role (.dma (sendS (up r))) = .send r := by revert r; decide +kernel
theorem role_recv (n : Fin 32) (h : n ≠ 0) : role (.dma (recvS n)) = .recv n := by revert n; decide +kernel
theorem role_w (k : Fin 3) (t : Fin 2) : role (.dma (wS k t)) = .other := by revert k t; decide +kernel
theorem up_ne (r : Fin 31) : up r ≠ 0 := by revert r; decide
theorem dn_ne (r : Fin 31) : dn r ≠ 0 := by revert r; decide

/-- A block's credit. -/
abbrev N : ℕ := (slot 0).view.dmaCredit
theorem N_pos : 0 < N := View.dmaCredit_pos _ (by decide)
theorem slot_N (n : Fin 32) : (slot n).view.dmaCredit = N := rfl
theorem src_N (c : Dev nD) (r : Fin 31) : (srcOf c r).view.dmaCredit = N := rfl
/-- The credit of half a weight block. -/
abbrev NW : ℕ := (half 0 0).view.dmaCredit
theorem NW_pos : 0 < NW := View.dmaCredit_pos _ (by decide)
theorem half_N (k : Fin 3) (t : Fin 2) : (half k t).view.dmaCredit = NW := rfl

/-! ## Contents -/

/-- Device `c`'s block of `x`, -/
def xstg (c : Dev nD) : (cc0_stg0_0 : Ref sig .tc).ty.Contents (Elt F) :=
  (win0_0.blk (0 : Fin 1)).view.read (Elt F) ((s₀ m ρ).mem ((c : Thread nD τ).loc main_arg0))
/-- rounded, -/
def xb (c : Dev nD) : (cc0_scratch0 : Ref sig .tc).ty.Contents (Elt F) := k0_pay1 (xstg m ρ c)
/-- the weights, -/
def wts (c : Dev nD) : (main_arg1 : Ref sig .tc).ty.Contents (Elt F) := (s₀ m ρ).mem ((c : Thread nD τ).loc main_arg1)

/-- the landing buffer when everything has arrived: slot `n` holds rows `128 c ..` of the block of the device `n` places on, -/
def cB (c : Dev nD) : (cc0_scratch1 : Ref sig .tc).ty.Contents (Elt F) := fun i =>
  xb m ρ (at' (i 0).val c) (ix2 (⟨128 * c.val + (i 1).val, by
    have h1 : (i 1).val < 128 := (i 1).isLt
    have h2 : c.val < 32 := c.isLt
    omega⟩ : Fin 4096) (⟨(i 2).val, (i 2).isLt⟩ : Fin 128))

/-- and the weight buffer as block `s` needs it: half `t` holds the weight rows that belong to slot `2 s + t`. -/
def kB (c : Dev nD) (s : Fin 16) : (cc0_scratch2 : Ref sig .tc).ty.Contents (Elt F) := fun i =>
  wts m ρ c (ix2 (⟨128 * ((c.val + (2 * s.val + (i 1).val / 128)) % 32) + (i 1).val % 128, by omega⟩ : Fin 4096)
    (⟨(i 2).val, (i 2).isLt⟩ : Fin 8192))

/-! ## Pieces of memory -/

def slotPts (c : Dev nD) (n : Fin 32) (f : (cc0_scratch1 : Ref sig .tc).ty.Contents (Elt F)) : sProp 𝕄 :=
  (slot n).view.loc (c : Thread nD τ) ↦[(slot n).view.set]{fullShare} f
def srcPts (c : Dev nD) (r : Fin 31) : sProp 𝕄 :=
  (srcOf c r).view.loc (c : Thread nD τ) ↦[(srcOf c r).view.set]{fullShare} xb m ρ c
def halfPts (c : Dev nD) (k : Fin 3) (t : Fin 2) (f : (cc0_scratch2 : Ref sig .tc).ty.Contents (Elt F)) : sProp 𝕄 :=
  (half k t).view.loc (c : Thread nD τ) ↦[(half k t).view.set]{fullShare} f
def wPts (c : Dev nD) (s : Fin 16) (t : Fin 2) : sProp 𝕄 :=
  (wOf c s t).view.loc (c : Thread nD τ) ↦[(wOf c s t).view.set]{fullShare} wts m ρ c

omit [FloatOps F] in
instance slotPts_storable (c : Dev nD) (n : Fin 32) (f) : BI.Storable (upEmb : UEmb _ 𝕄) (slotPts (F := F) c n f) := by unfold slotPts; infer_instance
instance srcPts_storable (c : Dev nD) (r : Fin 31) : BI.Storable (upEmb : UEmb _ 𝕄) (srcPts (F := F) m ρ c r) := by unfold srcPts; infer_instance

/-! ## The schedule -/

/-- What the device `1 + r` places on hands `c` with its unit. -/
def barPay (c : Dev nD) (r : Fin 31) : sProp 𝕄 := iprop(∃ f, slotPts (F := F) (nxt r c) (dn r) f)

/-- One round. -/
def sched : Rounds.Schedule (GSem nD τ sig) (Fin 31) 𝕄 where
  duties g r := if r = 0 ∧ g.1.2 = .tc then
    (match role g.2 with | .bar => Finset.univ | .send _ => {0} | .recv _ => {0} | .other => ∅) else ∅
  unitless _ := False
  amount g _ _ := match role g.2 with | .bar => 1 | _ => N
  payload g _ d := match role g.2 with
    | .bar => barPay (F := F) g.1.1 d | .send r => srcPts m ρ g.1.1 r | .recv n => slotPts g.1.1 n (cB m ρ g.1.1) | .other => iprop(emp)
  amount_pos g _ _ _ := by
    cases role g.2 <;> first | exact Nat.one_pos | exact N_pos

instance sched_payload_storable (g : GSem nD τ sig) (r : ℕ) (d : Fin 31) :
    BI.Storable (upEmb : UEmb _ 𝕄) ((sched (F := F) m ρ).payload g r d) := by
  show BI.Storable upEmb (match role g.2 with
    | .bar => barPay (F := F) g.1.1 d | .send r => srcPts m ρ g.1.1 r | .recv n => slotPts g.1.1 n (cB m ρ g.1.1) | .other => iprop(emp))
  unfold barPay
  split <;> infer_instance

section Sched
variable (c : Dev nD) (r : Fin 31) (n : Fin 32)

theorem duties_bar : (sched (F := F) m ρ).duties (barCell c) 0 = Finset.univ := by
  dsimp only [sched]; rw [if_pos ⟨rfl, rfl⟩, role_bar]
theorem duties_send : (sched (F := F) m ρ).duties (sendCell c r) 0 = {0} := by
  dsimp only [sched]; rw [if_pos ⟨rfl, rfl⟩, role_send]
theorem duties_recv (hn : n ≠ 0) : (sched (F := F) m ρ).duties (recvCell c n) 0 = {0} := by
  dsimp only [sched]; rw [if_pos ⟨rfl, rfl⟩, role_recv n hn]
theorem duties_later (g : GSem nD τ sig) : ∀ r, 1 ≤ r → (sched (F := F) m ρ).duties g r = ∅ :=
  fun r hr => by dsimp only [sched]; rw [if_neg fun h => by omega]

theorem amount_bar (d : Fin 31) : (sched (F := F) m ρ).amount (barCell c) 0 d = 1 := by dsimp only [sched]; rw [role_bar]
theorem amount_send (d : Fin 31) : (sched (F := F) m ρ).amount (sendCell c r) 0 d = N := by dsimp only [sched]; rw [role_send]
theorem amount_recv (hn : n ≠ 0) (d : Fin 31) : (sched (F := F) m ρ).amount (recvCell c n) 0 d = N := by
  dsimp only [sched]; rw [role_recv n hn]

theorem expect_bar : (sched (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
theorem expect_send : (sched (F := F) m ρ).expect (sendCell c r) 0 = N := by
  unfold Schedule.expect Schedule.amountOf; rw [duties_send, Finset.sum_singleton, amount_send]
theorem expect_recv (hn : n ≠ 0) : (sched (F := F) m ρ).expect (recvCell c n) 0 = N := by
  unfold Schedule.expect Schedule.amountOf; rw [duties_recv _ _ _ _ hn, Finset.sum_singleton, amount_recv _ _ _ _ hn]

theorem payload_bar (d : Fin 31) : (sched (F := F) m ρ).payload (barCell c) 0 d = barPay c d := by dsimp only [sched]; rw [role_bar]
theorem payload_send (d : Fin 31) : (sched (F := F) m ρ).payload (sendCell c r) 0 d = srcPts m ρ c r := by dsimp only [sched]; rw [role_send]
theorem payload_recv (hn : n ≠ 0) (d : Fin 31) : (sched (F := F) m ρ).payload (recvCell c n) 0 d = slotPts c n (cB m ρ c) := by
  dsimp only [sched]; rw [role_recv n hn]

theorem rest_bar : bigSep ((sched (F := F) m ρ).duties (barCell c) 0 \ ∅) (fun d => (sched (F := F) m ρ).payload (barCell c) 0 d)
    = bigSep Finset.univ fun d => barPay (F := F) c d := by
  rw [Finset.sdiff_empty, duties_bar]; exact bigSep_congr fun d _ => payload_bar m ρ c d
theorem rest_send : bigSep ((sched (F := F) m ρ).duties (sendCell c r) 0 \ ∅) (fun d => (sched (F := F) m ρ).payload (sendCell c r) 0 d) = srcPts m ρ c r := by
  rw [Finset.sdiff_empty, duties_send, bigSep_singleton, payload_send]
theorem rest_recv (hn : n ≠ 0) : bigSep ((sched (F := F) m ρ).duties (recvCell c n) 0 \ ∅) (fun d => (sched (F := F) m ρ).payload (recvCell c n) 0 d)
    = slotPts c n (cB m ρ c) := by
  rw [Finset.sdiff_empty, duties_recv _ _ _ _ hn, bigSep_singleton, payload_recv _ _ _ _ hn]

end Sched

/-! ## The cells of the protocol, and their records -/

/-- A device's cells: the barrier's, the sends', the arrivals'. -/
abbrev CI : Type := Unit ⊕ (Fin 31 ⊕ Fin 31)
abbrev csem : CI → SemLoc sig
  | .inl _ => .reg barS | .inr (.inl r) => .dma (sendS (up r)) | .inr (.inr r) => .dma (recvS (up r))
abbrev kcell (ck : Dev nD × CI) : GSem nD τ sig := ((ck.1 : Thread nD τ), csem ck.2)

/-- Every cell's invariant, and that it has reached its round. -/
def records (K : Dev nD × CI → ℕ) : sProp 𝕄 :=
  iprop((bigSep Finset.univ fun ck : Dev nD × CI => cellInv ER (sched m ρ) (K ck) (kcell ck))
    ∗ bigSep Finset.univ fun ck : Dev nD × CI => reached ER (kcell ck) 0)

instance records_persistent (K : Dev nD × CI → ℕ) : BI.Persistent (records m ρ K) := by unfold records; infer_instance

theorem rec_at (K : Dev nD × CI → ℕ) (ck : Dev nD × CI) :
    records m ρ K ⊢ iprop(cellInv ER (sched m ρ) (K ck) (kcell ck) ∗ reached ER (kcell ck) 0) := by
  unfold records
  exact BI.sep_mono (bigSep_elim (Finset.mem_univ ck)) (bigSep_elim (Finset.mem_univ ck))

theorem rec_bar (K : Dev nD × CI → ℕ) (c : Dev nD) :
    records m ρ K ⊢ iprop(cellInv ER (sched m ρ) (K (c, .inl ())) (barCell c) ∗ reached ER (barCell c) 0) := rec_at m ρ K (c, .inl ())
theorem rec_send (K : Dev nD × CI → ℕ) (c : Dev nD) (r : Fin 31) :
    records m ρ K ⊢ iprop(cellInv ER (sched m ρ) (K (c, .inr (.inl r))) (sendCell c r) ∗ reached ER (sendCell c r) 0) := rec_at m ρ K (c, .inr (.inl r))
theorem up_pred (n : Fin 32) (hn : n ≠ 0) : up ⟨n.val - 1, by have := n.isLt; have : n.val ≠ 0 := fun h => hn (Fin.ext h); omega⟩ = n :=
  Fin.ext (by have : n.val ≠ 0 := fun h => hn (Fin.ext h); simp only; omega)
theorem rec_recv (K : Dev nD × CI → ℕ) (c : Dev nD) (n : Fin 32) (hn : n ≠ 0) :
    ∃ κ, records m ρ K ⊢ iprop(cellInv ER (sched m ρ) κ (recvCell c n) ∗ reached ER (recvCell c n) 0) := by
  rw [← up_pred n hn]
  exact ⟨_, rec_at m ρ K (c, .inr (.inr _))⟩

/-! ## What a device owes at launch; the levels -/

/-- Its units to the barriers of the peers of a list, -/
def owesBar (c : Dev nD) (l : List (Fin 31)) : CellTallies nD τ sig Unit := (l.map fun r => tallyAt (barCell (nxt r c)) () 1).sum
/-- the credits of its blocks to them, -/
def owesRecv (c : Dev nD) (l : List (Fin 31)) : CellTallies nD τ sig Unit := (l.map fun r => tallyAt (recvCell (nxt r c) (dn r)) () N).sum
/-- and both, to all. -/
def O₀ (c : Dev nD) : CellTallies nD τ sig Unit := owesRecv c peers + owesBar c peers

def L (g : GSem nD τ sig) : Finset Unit := if g.1.2 = .tc then {()} else ∅
/-- Arrivals are above the barrier, the barrier above the rest. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

/-- A sum of tallies is positive at a cell only if one of them is. -/
theorem tallies_pos {I : Type} (f : I → GSem nD τ sig) (k : ℕ) (l : List I) {g : GSem nD τ sig} {u : Unit}
    (h : 0 < (l.map fun r => (tallyAt (f r) () k : CellTallies nD τ sig Unit)).sum g u) : ∃ r ∈ l, g = f r := by
  induction l with
  | nil => exact absurd h (Nat.lt_irrefl 0)
  | cons r l ih =>
    rw [List.map_cons, List.sum_cons, Pi.add_apply, Finsupp.add_apply, tallyAt_apply] at h
    by_cases hg : g = f r
    · exact ⟨r, List.mem_cons_self, hg⟩
    · rw [if_neg (fun h' => hg h'.1), Nat.zero_add] at h
      obtain ⟨r', h1, h2⟩ := ih h
      exact ⟨r', List.mem_cons_of_mem _ h1, h2⟩

theorem lv_bar (c : Dev nD) (u : Unit) : lv (barCell c) u = 1 := by unfold lv; rw [role_bar]
theorem lv_recv (c : Dev nD) (n : Fin 32) (hn : n ≠ 0) (u : Unit) : lv (recvCell c n) u = 2 := by unfold lv; rw [role_recv n hn]

omit [FloatOps F] in
/-- While a device stages its blocks it owes all of that, or nothing. -/
theorem mayWait_stage (c : Dev nD) (q : DmaSem sig) (hq : role (.dma q) = .other) (O : CellTallies nD τ sig Unit) (hO : O = O₀ c ∨ O = 0) :
    (levAts L lv : sProp 𝕄) ⊢ MayWait (c : Thread nD τ) (.dma q) () O := by
  rcases hO with rfl | rfl
  · have key : ∀ g u, 0 < O₀ c g u → (∃ r, g = recvCell (nxt r c) (dn r)) ∨ ∃ r, g = barCell (nxt r c) := fun g u hg => by
      unfold O₀ owesRecv owesBar at hg
      rw [Pi.add_apply, Finsupp.add_apply] at hg
      rcases Nat.eq_zero_or_pos ((peers.map fun r => (tallyAt (recvCell (nxt r c) (dn r)) () N : CellTallies nD τ sig Unit)).sum g u) with h0 | h0
      · rw [h0, Nat.zero_add] at hg
        obtain ⟨r, _, h⟩ := tallies_pos (fun r => barCell (nxt r c)) 1 peers hg
        exact .inr ⟨r, h⟩
      · obtain ⟨r, _, h⟩ := tallies_pos (fun r => recvCell (nxt r c) (dn r)) N peers h0
        exact .inl ⟨r, h⟩
    refine MayOwe.of_cut (L := L) (lev := lv) 0 (fun p hp => by rw [Finset.mem_singleton.mp hp, L_tc]; exact Finset.mem_singleton_self _)
      (fun g u hg => by rcases key g u hg with ⟨r, rfl⟩ | ⟨r, rfl⟩ <;> exact Finset.mem_singleton_self _)
      (fun p hp => by rw [Finset.mem_singleton.mp hp]; unfold lv; rw [hq])
      (fun g u hg => by
        rcases key g u hg with ⟨r, rfl⟩ | ⟨r, rfl⟩
        · rw [lv_recv _ _ (dn_ne r)]; decide
        · rw [lv_bar]; decide)
  · rw [MayWait_zero]; iintro -; iempintro

omit [FloatOps F] in
/-- At its barrier a device owes only blocks. -/
theorem mayWait_bar (c : Dev nD) :
    (levAts L lv : sProp 𝕄) ⊢ MayWait (c : Thread nD τ) (.reg barS) () (owesRecv c peers) :=
  MayOwe.of_cut (L := L) (lev := lv) 1 (fun p hp => by rw [Finset.mem_singleton.mp hp, L_tc]; exact Finset.mem_singleton_self _)
    (fun g u hg => by
      obtain ⟨r, _, rfl⟩ := tallies_pos (fun r => recvCell (nxt r c) (dn r)) N peers hg
      exact Finset.mem_singleton_self _)
    (fun p hp => by rw [Finset.mem_singleton.mp hp]; exact (lv_bar c _).le)
    (fun g u hg => by
      obtain ⟨r, _, rfl⟩ := tallies_pos (fun r => recvCell (nxt r c) (dn r)) N peers hg
      rw [lv_recv _ _ (dn_ne r)]; decide)

end Cert.KernelIdeal.Body

end
-- ==== Proof.KernelIdeal.Mem.lean ====
/-
  Where the pieces of memory lie, and what the copies and the stores leave in them.
-/
module

public import proofs.«01_k».proof.Proof.KernelIdeal.Proto
public import Idealize.ShloMosaic.Lib.Pipeline.ValueKit
public import Idealize.ShloMosaic.Lib.ValueLayout

@[expose] public section

set_option maxRecDepth 65536

noncomputable section

namespace Cert.KernelIdeal.Body

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ) (ρ : Dev nD → PrngReg)

/-! ## Offsets and places -/

theorem off1_eq : ∀ (c : Dev nD) (r : Fin 31), k0_off1 c (BitVec.ofNat 32 (1 + r.val)) = ![128 * ((c.val + (1 + r.val)) % 32), 0] := by
  decide +kernel
theorem off3_eq : ∀ (c : Dev nD) (s : Fin 16) (t : Fin 2),
    k0_off3 c (BitVec.ofNat 32 (2 * s.val)) (BitVec.ofNat 32 t.val) = ![128 * ((c.val + (2 * s.val + t.val)) % 32), 0] := by
  decide +kernel

theorem slot_emb (n : Fin 32) (x : S128x128.Idx) : (slot n).view.emb x
    = (ix3 (n0 := 32) (n1 := 128) (n2 := 128) n ⟨(x 0).val, (x 0).isLt⟩ ⟨(x 1).val, (x 1).isLt⟩ : S32x128x128.Idx) := by
  show (Rect.unit (s := S32x128x128) ![n.val, 0, 0] S1x128x128.size (inbC n)).emb (Shape.reshapeEquiv _ x) = _
  rw [show Shape.reshapeEquiv (Shape.Squeezes.numel_eq squeezes_S1x128x128_S128x128) x = Fin.cons (⟨0, Nat.one_pos⟩ : Fin 1) x from Shape.reshapeEquiv_cons_one (d := ![128, 128]) _ x]
  funext a; apply Fin.ext; rw [ValueKit.rect_emb_unit_val]
  fin_cases a
  · rfl
  · exact Nat.zero_add _
  · exact Nat.zero_add _

theorem half_emb (k : Fin 3) (t : Fin 2) (x : S128x8192.Idx) : (half k t).view.emb x
    = (ix3 (n0 := 3) (n1 := 256) (n2 := 8192) k ⟨128 * t.val + (x 0).val, by have : (x 0).val < 128 := (x 0).isLt; omega⟩ ⟨(x 1).val, (x 1).isLt⟩ : S3x256x8192.Idx) := by
  show (Rect.unit (s := S3x256x8192) ![k.val, 128 * t.val, 0] S1x128x8192.size (inbH k t)).emb (Shape.reshapeEquiv _ x) = _
  rw [show Shape.reshapeEquiv (Shape.Squeezes.numel_eq squeezes_S1x128x8192_S128x8192) x = Fin.cons (⟨0, Nat.one_pos⟩ : Fin 1) x from Shape.reshapeEquiv_cons_one (d := ![128, 8192]) _ x]
  funext a; apply Fin.ext; rw [ValueKit.rect_emb_unit_val]
  fin_cases a
  · rfl
  · rfl
  · exact Nat.zero_add _

theorem src_emb (c : Dev nD) (r : Fin 31) (x : S128x128.Idx) : (srcOf c r).view.emb x
    = (ix2 (n0 := 4096) (n1 := 128) ⟨128 * ((c.val + (1 + r.val)) % 32) + (x 0).val, by have : (x 0).val < 128 := (x 0).isLt; omega⟩ ⟨(x 1).val, (x 1).isLt⟩ : S4096x128.Idx) := by
  show (Rect.unit (s := S4096x128) _ S128x128.size (k0_off1_inb c r)).emb x = _
  funext a; apply Fin.ext; rw [ValueKit.rect_emb_unit_val]
  refine (congrArg (· + (x a).val) (congrFun (off1_eq c r) a)).trans ?_
  fin_cases a
  · rfl
  · exact Nat.zero_add _

theorem wOf_emb (c : Dev nD) (s : Fin 16) (t : Fin 2) (x : S128x8192.Idx) : (wOf c s t).view.emb x
    = (ix2 (n0 := 4096) (n1 := 8192) ⟨128 * ((c.val + (2 * s.val + t.val)) % 32) + (x 0).val, by have : (x 0).val < 128 := (x 0).isLt; omega⟩ ⟨(x 1).val, (x 1).isLt⟩ : S4096x8192.Idx) := by
  show (Rect.unit (s := S4096x8192) _ S128x8192.size (k0_off3_inb c s t)).emb x = _
  funext a; apply Fin.ext; rw [ValueKit.rect_emb_unit_val]
  refine (congrArg (· + (x a).val) (congrFun (off3_eq c s t) a)).trans ?_
  fin_cases a
  · rfl
  · exact Nat.zero_add _

/-! ## What arrives -/

/-- A block sent lands as the slot's contents. -/
theorem send_lands (c : Dev nD) (r : Fin 31) (fd : (cc0_scratch1 : Ref sig .tc).ty.Contents (Elt F)) :
    ((slot (dn r)).view.loc (nxt r c : Thread nD τ) ↦[(slot (dn r)).view.set]{fullShare}
        (slot (dn r)).view.write (Elt F) fd ((srcOf c r).view.read (Elt F) (xb m ρ c)) Finset.univ : sProp 𝕄)
      = slotPts (nxt r c) (dn r) (cB m ρ (nxt r c)) := by
  unfold slotPts
  refine pointsTo_congr fun i hi => ?_
  obtain ⟨x, -, rfl⟩ := Finset.mem_map.mp hi
  rw [View.write_emb_of_mem (v := (slot (dn r)).view) (h := Finset.mem_univ x)]
  show xb m ρ c ((srcOf c r).view.emb x) = cB m ρ (nxt r c) ((slot (dn r)).view.emb x)
  rw [slot_emb, src_emb]
  unfold cB
  rw [show at' ((ix3 (n0 := 32) (n1 := 128) (n2 := 128) (dn r) ⟨(x 0).val, (x 0).isLt⟩ ⟨(x 1).val, (x 1).isLt⟩ : S32x128x128.Idx) 0).val (nxt r c) = c from dn_nxt r c]
  rfl

/-- A copied half of a weight block is the buffer's half. -/
theorem w_lands (c : Dev nD) (s : Fin 16) (t : Fin 2) (fd : (cc0_scratch2 : Ref sig .tc).ty.Contents (Elt F)) :
    ((half (slotOf s) t).view.loc (c : Thread nD τ) ↦[(half (slotOf s) t).view.set]{fullShare}
        (half (slotOf s) t).view.write (Elt F) fd ((ReadAs.same : ReadAs (Elt F) S128x8192 .f32 S128x8192 .f32).apply ((wOf c s t).view.read (Elt F) (wts m ρ c))) Finset.univ : sProp 𝕄)
      = halfPts c (slotOf s) t (kB m ρ c s) := by
  unfold halfPts
  refine pointsTo_congr fun i hi => ?_
  obtain ⟨x, -, rfl⟩ := Finset.mem_map.mp hi
  rw [View.write_emb_of_mem (v := (half (slotOf s) t).view) (h := Finset.mem_univ x)]
  show wts m ρ c ((wOf c s t).view.emb x) = kB m ρ c s ((half (slotOf s) t).view.emb x)
  rw [half_emb, wOf_emb]
  unfold kB
  congr 1
  have hx : (x 0).val < 128 := (x 0).isLt
  have ht : t.val < 2 := t.isLt
  funext a; apply Fin.ext
  fin_cases a
  · show 128 * ((c.val + (2 * s.val + t.val)) % 32) + (x 0).val
      = 128 * ((c.val + (2 * s.val + (128 * t.val + (x 0).val) / 128)) % 32) + (128 * t.val + (x 0).val) % 128
    rw [show (128 * t.val + (x 0).val) / 128 = t.val by omega, show (128 * t.val + (x 0).val) % 128 = (x 0).val by omega]
  · rfl

/-! ## Buffers held piece by piece -/

theorem slot_mem (n : Fin 32) (i : S32x128x128.Idx) : i ∈ (slot n).view.set ↔ (i 0).val = n.val := by
  constructor
  · intro hi
    obtain ⟨x, -, rfl⟩ := Finset.mem_map.mp hi
    rw [slot_emb]; rfl
  · intro hi
    refine Finset.mem_map.mpr ⟨(ix2 (n0 := 128) (n1 := 128) ⟨(i 1).val, (i 1).isLt⟩ ⟨(i 2).val, (i 2).isLt⟩ : S128x128.Idx), Finset.mem_univ _, ?_⟩
    rw [slot_emb]
    funext a; apply Fin.ext
    fin_cases a
    · exact hi.symm
    · rfl
    · rfl

theorem half_mem (k : Fin 3) (t : Fin 2) (i : S3x256x8192.Idx) : i ∈ (half k t).view.set ↔ (i 0).val = k.val ∧ (i 1).val / 128 = t.val := by
  have h1 : (i 1).val < 256 := (i 1).isLt
  constructor
  · intro hi
    obtain ⟨x, -, rfl⟩ := Finset.mem_map.mp hi
    have hx : (x 0).val < 128 := (x 0).isLt
    rw [half_emb]
    refine ⟨rfl, ?_⟩
    show (128 * t.val + (x 0).val) / 128 = t.val
    omega
  · rintro ⟨h0, ht⟩
    refine Finset.mem_map.mpr ⟨(ix2 (n0 := 128) (n1 := 8192) ⟨(i 1).val % 128, Nat.mod_lt _ (by decide)⟩ ⟨(i 2).val, (i 2).isLt⟩ : S128x8192.Idx), Finset.mem_univ _, ?_⟩
    rw [half_emb]
    funext a; apply Fin.ext
    fin_cases a
    · exact h0.symm
    · show 128 * t.val + (i 1).val % 128 = (i 1).val
      omega
    · rfl

theorem src_mem (c : Dev nD) (r : Fin 31) (i : S4096x128.Idx) : i ∈ (srcOf c r).view.set ↔ (i 0).val / 128 = (c.val + (1 + r.val)) % 32 := by
  constructor
  · intro hi
    obtain ⟨x, -, rfl⟩ := Finset.mem_map.mp hi
    have hx : (x 0).val < 128 := (x 0).isLt
    rw [src_emb]
    show (128 * ((c.val + (1 + r.val)) % 32) + (x 0).val) / 128 = _
    omega
  · intro h0
    refine Finset.mem_map.mpr ⟨(ix2 (n0 := 128) (n1 := 128) ⟨(i 0).val % 128, Nat.mod_lt _ (by decide)⟩ ⟨(i 1).val, (i 1).isLt⟩ : S128x128.Idx), Finset.mem_univ _, ?_⟩
    rw [src_emb]
    funext a; apply Fin.ext
    fin_cases a
    · show 128 * ((c.val + (1 + r.val)) % 32) + (i 0).val % 128 = (i 0).val
      omega
    · rfl

theorem wOf_mem (c : Dev nD) (s : Fin 16) (t : Fin 2) (i : S4096x8192.Idx) :
    i ∈ (wOf c s t).view.set ↔ (i 0).val / 128 = (c.val + (2 * s.val + t.val)) % 32 := by
  constructor
  · intro hi
    obtain ⟨x, -, rfl⟩ := Finset.mem_map.mp hi
    have hx : (x 0).val < 128 := (x 0).isLt
    rw [wOf_emb]
    show (128 * ((c.val + (2 * s.val + t.val)) % 32) + (x 0).val) / 128 = _
    omega
  · intro h0
    refine Finset.mem_map.mpr ⟨(ix2 (n0 := 128) (n1 := 8192) ⟨(i 0).val % 128, Nat.mod_lt _ (by decide)⟩ ⟨(i 1).val, (i 1).isLt⟩ : S128x8192.Idx), Finset.mem_univ _, ?_⟩
    rw [wOf_emb]
    funext a; apply Fin.ext
    fin_cases a
    · show 128 * ((c.val + (2 * s.val + t.val)) % 32) + (i 0).val % 128 = (i 0).val
      omega
    · rfl

/-- The rows of the own block that stay: as a rectangle, -/
abbrev ownR (c : Dev nD) : Rect S4096x128 := Rect.unit (s := S4096x128) (k0_off2 c) S128x128.size (k0_off2_inb c)
/-- and held. -/
def ownPts (c : Dev nD) : sProp 𝕄 := bM.view.loc (c : Thread nD τ) ↦[bM.view.setOn (ownR c).set]{fullShare} xb m ρ c

theorem whole_setOn {κ : Kind} (b : Ref sig κ) (M : Finset b.ty.shape.Idx) : (Memref.whole b).view.setOn M = M :=
  Finset.map_refl

theorem own_mem (c : Dev nD) (i : S4096x128.Idx) : i ∈ bM.view.setOn (ownR c).set ↔ (i 0).val / 128 = c.val := by
  rw [whole_setOn, Rect.mem_set_unit]
  have e0 : k0_off2 c 0 = 128 * c.val := congrFun (k0_off2_eq c) 0
  have e1 : k0_off2 c 1 = 0 := congrFun (k0_off2_eq c) 1
  have h1 : (i 1).val < 128 := (i 1).isLt
  constructor
  · intro h
    have h0 := h 0
    change k0_off2 c 0 ≤ (i 0).val ∧ (i 0).val < k0_off2 c 0 + 128 at h0
    rw [e0] at h0; omega
  · intro h a
    fin_cases a
    · change k0_off2 c 0 ≤ (i 0).val ∧ (i 0).val < k0_off2 c 0 + 128
      rw [e0]; omega
    · change k0_off2 c 1 ≤ (i 1).val ∧ (i 1).val < k0_off2 c 1 + 128
      rw [e1]; omega

theorem slot_disj (n n' : Fin 32) (h : n ≠ n') : Disjoint (slot n).view.set (slot n').view.set :=
  Finset.disjoint_left.mpr fun i h1 h2 => h (Fin.ext (((slot_mem n i).mp h1).symm.trans ((slot_mem n' i).mp h2)))
abbrev slotSet (n : Fin 32) : Finset S32x128x128.Idx := (slot n).view.set
theorem slot_cover : Finset.univ.biUnion slotSet = Finset.univ := by
  ext i; simp only [Finset.mem_biUnion, Finset.mem_univ, true_and, iff_true]
  exact ⟨⟨(i 0).val, (i 0).isLt⟩, (slot_mem _ i).mpr rfl⟩

/-- The landing buffer, slot by slot. -/
theorem slots_split (c : Dev nD) (f : (cc0_scratch1 : Ref sig .tc).ty.Contents (Elt F)) :
    ((c : Thread nD τ).loc cc0_scratch1 ↦{fullShare} f : sProp 𝕄) = bigSep Finset.univ fun n : Fin 32 => slotPts c n f := by
  rw [Ring.pointsTo_blocks (ℓ := (c : Thread nD τ).loc cc0_scratch1) slotSet slot_disj slot_cover]
  exact bigSep_congr fun n _ => by unfold slotPts; rfl
theorem slots_join (c : Dev nD) (f₀ : (cc0_scratch1 : Ref sig .tc).ty.Contents (Elt F)) :
    (bigSep Finset.univ fun n : Fin 32 => iprop(∃ f, slotPts (F := F) c n f)) ⊢ (iprop(∃ g, (c : Thread nD τ).loc cc0_scratch1 ↦{fullShare} g) : sProp 𝕄) :=
  (Entails.of_eq (bigSep_congr fun n _ => by unfold slotPts; rfl)).trans
    (Ring.pointsTo_blocks_join_exists (ℓ := (c : Thread nD τ).loc cc0_scratch1) slotSet slot_disj slot_cover f₀)

/-- The weight buffer, half by half. -/
abbrev halfSet (kt : Fin 3 × Fin 2) : Finset S3x256x8192.Idx := (half kt.1 kt.2).view.set
theorem half_disj (p p' : Fin 3 × Fin 2) (h : p ≠ p') : Disjoint (halfSet p) (halfSet p') :=
  Finset.disjoint_left.mpr fun i h1 h2 => h (by
    have a := (half_mem _ _ i).mp h1
    have b := (half_mem _ _ i).mp h2
    exact Prod.ext (Fin.ext (a.1.symm.trans b.1)) (Fin.ext (a.2.symm.trans b.2)))
theorem half_cover : Finset.univ.biUnion halfSet = Finset.univ := by
  ext i; simp only [Finset.mem_biUnion, Finset.mem_univ, true_and, iff_true]
  have h1 : (i 1).val < 256 := (i 1).isLt
  exact ⟨(⟨(i 0).val, (i 0).isLt⟩, ⟨(i 1).val / 128, by omega⟩), (half_mem _ _ i).mpr ⟨rfl, rfl⟩⟩

theorem halves_split (c : Dev nD) (f : (cc0_scratch2 : Ref sig .tc).ty.Contents (Elt F)) :
    ((c : Thread nD τ).loc cc0_scratch2 ↦{fullShare} f : sProp 𝕄) = bigSep Finset.univ fun kt : Fin 3 × Fin 2 => halfPts c kt.1 kt.2 f := by
  rw [Ring.pointsTo_blocks (ℓ := (c : Thread nD τ).loc cc0_scratch2) halfSet half_disj half_cover]
  exact bigSep_congr fun n _ => by unfold halfPts; rfl
theorem halves_join (c : Dev nD) (f₀ : (cc0_scratch2 : Ref sig .tc).ty.Contents (Elt F)) :
    (bigSep Finset.univ fun kt : Fin 3 × Fin 2 => iprop(∃ f, halfPts (F := F) c kt.1 kt.2 f))
      ⊢ (iprop(∃ g, (c : Thread nD τ).loc cc0_scratch2 ↦{fullShare} g) : sProp 𝕄) :=
  (Entails.of_eq (bigSep_congr fun n _ => by unfold halfPts; rfl)).trans
    (Ring.pointsTo_blocks_join_exists (ℓ := (c : Thread nD τ).loc cc0_scratch2) halfSet half_disj half_cover f₀)

/-- The own block, rounded: the rows that stay and the rows sent. -/
abbrev rowSet (c : Dev nD) : Unit ⊕ Fin 31 → Finset S4096x128.Idx
  | .inl _ => bM.view.setOn (ownR c).set | .inr r => (srcOf c r).view.set
theorem row_mem (c : Dev nD) (b : Unit ⊕ Fin 31) (i : S4096x128.Idx) :
    i ∈ rowSet c b ↔ (i 0).val / 128 = (c.val + Sum.elim (fun _ => 0) (fun r => 1 + r.val) b) % 32 := by
  have hc : c.val < 32 := c.isLt
  rcases b with _ | r
  · refine (own_mem c i).trans ?_
    show _ ↔ (i 0).val / 128 = (c.val + 0) % 32
    rw [Nat.add_zero, Nat.mod_eq_of_lt hc]
  · exact src_mem c r i
theorem row_disj (c : Dev nD) (b b' : Unit ⊕ Fin 31) (h : b ≠ b') : Disjoint (rowSet c b) (rowSet c b') :=
  Finset.disjoint_left.mpr fun i h1 h2 => by
    have e := ((row_mem c b i).mp h1).symm.trans ((row_mem c b' i).mp h2)
    have hc : c.val < 32 := c.isLt
    rcases b with _ | r <;> rcases b' with _ | r'
    · exact h rfl
    · have := r'.isLt
      simp only [Sum.elim_inl, Sum.elim_inr] at e; omega
    · have := r.isLt
      simp only [Sum.elim_inl, Sum.elim_inr] at e; omega
    · have := r.isLt
      have := r'.isLt
      refine h (congrArg Sum.inr (Fin.ext ?_))
      simp only [Sum.elim_inr] at e; omega
theorem row_cover (c : Dev nD) : Finset.univ.biUnion (rowSet c) = Finset.univ := by
  ext i; simp only [Finset.mem_biUnion, Finset.mem_univ, true_and, iff_true]
  have h0 : (i 0).val < 4096 := (i 0).isLt
  have hc : c.val < 32 := c.isLt
  by_cases h : ((i 0).val / 128 + 32 - c.val) % 32 = 0
  · exact ⟨.inl (), (row_mem c _ i).mpr (by simp only [Sum.elim_inl]; omega)⟩
  · exact ⟨.inr ⟨((i 0).val / 128 + 32 - c.val) % 32 - 1, by omega⟩, (row_mem c _ i).mpr (by simp only [Sum.elim_inr]; omega)⟩

theorem rows_split (c : Dev nD) :
    ((c : Thread nD τ).loc cc0_scratch0 ↦{fullShare} xb m ρ c : sProp 𝕄) = iprop(ownPts m ρ c ∗ bigSep Finset.univ fun r : Fin 31 => srcPts m ρ c r) := by
  rw [Ring.pointsTo_blocks (ℓ := (c : Thread nD τ).loc cc0_scratch0) (rowSet c) (row_disj c) (row_cover c), bigSep_univ_sum,
    bigSep_univ_of_subsingleton ()]
  exact congr (congrArg _ (by unfold ownPts; rfl)) (bigSep_congr fun n _ => by unfold srcPts; rfl)

/-- The weights, by the halves of the blocks that read them. -/
abbrev wSet (c : Dev nD) (st : Fin 16 × Fin 2) : Finset S4096x8192.Idx := (wOf c st.1 st.2).view.set
theorem w_disj (c : Dev nD) (p p' : Fin 16 × Fin 2) (h : p ≠ p') : Disjoint (wSet c p) (wSet c p') :=
  Finset.disjoint_left.mpr fun i h1 h2 => h (by
    have e := ((wOf_mem c p.1 p.2 i).mp h1).symm.trans ((wOf_mem c p'.1 p'.2 i).mp h2)
    have hc : c.val < 32 := c.isLt
    have := p.1.isLt
    have := p.2.isLt
    have := p'.1.isLt
    have := p'.2.isLt
    exact Prod.ext (Fin.ext (by omega)) (Fin.ext (by omega)))
theorem w_cover (c : Dev nD) : Finset.univ.biUnion (wSet c) = Finset.univ := by
  ext i; simp only [Finset.mem_biUnion, Finset.mem_univ, true_and, iff_true]
  have h0 : (i 0).val < 4096 := (i 0).isLt
  have hc : c.val < 32 := c.isLt
  have hs : ((i 0).val / 128 + 32 - c.val) % 32 / 2 < 16 := by omega
  have ht : ((i 0).val / 128 + 32 - c.val) % 32 % 2 < 2 := by omega
  refine ⟨(⟨_, hs⟩, ⟨_, ht⟩), (wOf_mem c ⟨_, hs⟩ ⟨_, ht⟩ i).mpr ?_⟩
  show (i 0).val / 128 = (c.val + (2 * (((i 0).val / 128 + 32 - c.val) % 32 / 2) + ((i 0).val / 128 + 32 - c.val) % 32 % 2)) % 32
  omega
theorem w_split (c : Dev nD) :
    ((c : Thread nD τ).loc main_arg1 ↦{fullShare} wts m ρ c : sProp 𝕄) = bigSep Finset.univ fun st : Fin 16 × Fin 2 => wPts m ρ c st.1 st.2 := by
  rw [Ring.pointsTo_blocks (ℓ := (c : Thread nD τ).loc main_arg1) (wSet c) (w_disj c) (w_cover c)]
  exact bigSep_congr fun n _ => by unfold wPts; rfl

/-! ## Loads and the store into slot 0 -/

abbrev slotR (n : Fin 32) : Rect S32x128x128 := Rect.unit (s := S32x128x128) ![n.val, 0, 0] S1x128x128.size (inbC n)
abbrev wR (k : Fin 3) : Rect S3x256x8192 := Rect.unit (s := S3x256x8192) ![k.val, 0, 0] S1x256x8192.size (inbK k)

/-- What the load of slot `n` reads, -/
def slotVec (c : Dev nD) (n : Fin 32) : Vec F S1x128x128 .bf16 := cM.view.readAt (Elt F) (slotR n).toLoadRect (cB m ρ c)
/-- and the load of the weight block `s`. -/
def wVec (c : Dev nD) (s : Fin 16) : Vec F S1x256x8192 .f32 := kM.view.readAt (Elt F) (wR (slotOf s)).toLoadRect (kB m ρ c s)

theorem slotR_set (n : Fin 32) : cM.view.setOn (slotR n).set = (slot n).view.set :=
  ((View.set_reshape _ _).trans (View.set_slice _ _)).symm
theorem slotA_set (n : Fin 32) : (cM.access (slotR n)).setOn Finset.univ = (slot n).view.set := (View.set_reshape _ _).symm

theorem wR_set (k : Fin 3) : kM.view.setOn (wR k).set = (half k 0).view.set ∪ (half k 1).view.set := by
  rw [whole_setOn]
  ext i
  rw [Finset.mem_union, half_mem, half_mem, Rect.mem_set_unit]
  have h1 : (i 1).val < 256 := (i 1).isLt
  have h2 : (i 2).val < 8192 := (i 2).isLt
  constructor
  · intro h
    have h0 : k.val ≤ (i 0).val ∧ (i 0).val < k.val + 1 := h 0
    show ((i 0).val = k.val ∧ (i 1).val / 128 = 0) ∨ ((i 0).val = k.val ∧ (i 1).val / 128 = 1)
    omega
  · intro h a
    change ((i 0).val = k.val ∧ (i 1).val / 128 = 0) ∨ ((i 0).val = k.val ∧ (i 1).val / 128 = 1) at h
    fin_cases a
    · show k.val ≤ (i 0).val ∧ (i 0).val < k.val + 1
      omega
    · show 0 ≤ (i 1).val ∧ (i 1).val < 0 + 256
      omega
    · show 0 ≤ (i 2).val ∧ (i 2).val < 0 + 8192
      omega

/-- Both halves of a weight slot are the slot. -/
theorem halves_whole (c : Dev nD) (k : Fin 3) (f : (cc0_scratch2 : Ref sig .tc).ty.Contents (Elt F)) :
    (kM.view.loc (c : Thread nD τ) ↦[kM.view.setOn (wR k).set]{fullShare} f : sProp 𝕄) ⊣⊢ iprop(halfPts c k 0 f ∗ halfPts c k 1 f) := by
  rw [wR_set]
  exact pointsTo_union (half_disj (k, 0) (k, 1) fun h => absurd (congrArg Prod.snd h) (by decide : (0 : Fin 2) ≠ 1))

/-- The own rows, stored, are slot 0's contents. -/
theorem own_lands (c : Dev nD) (f : (cc0_scratch1 : Ref sig .tc).ty.Contents (Elt F)) :
    ((cM.access (slotR 0)).loc (c : Thread nD τ) ↦[(slot 0).view.set]{fullShare}
        (cM.access (slotR 0)).write (Elt F) f (k0_pay2 (bM.view.readAt (Elt F) (ownR c).toLoadRect (xb m ρ c))) Finset.univ : sProp 𝕄)
      = slotPts c 0 (cB m ρ c) := by
  unfold slotPts
  refine pointsTo_congr fun i hi => ?_
  have h0 : (i 0).val = 0 := (slot_mem 0 i).mp hi
  have hx : i = (cM.access (slotR 0)).emb (ix3 (n0 := 1) (n1 := 128) (n2 := 128) 0 ⟨(i 1).val, (i 1).isLt⟩ ⟨(i 2).val, (i 2).isLt⟩ : S1x128x128.Idx) := by
    funext a; apply Fin.ext
    show _ = ((Rect.emb _ _ a : Fin _) : ℕ)
    rw [ValueKit.rect_emb_unit_val]
    fin_cases a
    · exact h0
    · exact (Nat.zero_add _).symm
    · exact (Nat.zero_add _).symm
  rw [hx, View.write_emb_of_mem (v := cM.access (slotR 0)) (h := Finset.mem_univ _), ← hx]
  refine (cast_eq _ _).trans ?_
  show k0_pay2 (F := F) _ (ix3 (n0 := 1) (n1 := 128) (n2 := 128) 0 ⟨(i 1).val, (i 1).isLt⟩ ⟨(i 2).val, (i 2).isLt⟩) = _
  unfold k0_pay2
  refine (ValueIdx.shapeCast_ab_1ab_apply (a := 128) (b := 128) _ _ _ _ _).trans ?_
  show xb m ρ c ((ownR c).emb _) = _
  unfold cB
  rw [h0, at_0]
  congr 1
  funext a; apply Fin.ext; rw [ValueKit.rect_emb_unit_val]
  refine (congrArg (· + _) (congrFun (k0_off2_eq c) a)).trans ?_
  fin_cases a
  · rfl
  · exact Nat.zero_add _

end Cert.KernelIdeal.Body

end
-- ==== Proof.KernelIdeal.Loops.lean ====
/-
  The statements and loops of the body, one rule each.
-/
module

public import proofs.«01_k».proof.Proof.KernelIdeal.Mem

@[expose] public section

set_option maxRecDepth 65536

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

abbrev 𝒱₀ : Variants := Variants.none

/-- The weakest precondition on device `c`. -/
abbrev WP {α : Type} (c : Dev nD) (P : Prog (Eff F) α) (Q : α → sProp 𝕄) : sProp 𝕄 :=
  wp frame (wpE (defs₀ (F := F)) 𝒱₀ (c : Thread nD τ) none) Set.univ P Q

/-- The device owes nothing, whatever it has waited for. -/
def owes0 (c : Dev nD) : sProp 𝕄 := iprop(∃ W, owes (c : Thread nD τ) (0 : CellTallies nD τ sig Unit) W)

section Rules

/-! ## Signals and sends -/

theorem wp_signal_to {α : Type} {Q : α → sProp 𝕄} (c : Dev nD) (r : Fin 31) (n : Dev nD) (hn : n = nxt r c) {k : PUnit → Prog (Eff F) α} (O : CellTallies nD τ sig Unit) (W : Waits sig Unit) :
    iprop(records m ρ K ∗ dutyTok ER (barCell (nxt r c)) 0 r.rev ∗ (∃ f, slotPts (F := F) c (up r) f)
        ∗ owes (c : Thread nD τ) (O + tallyAt (barCell (nxt r c)) () 1) W)
      ⊢ iprop((owes (c : Thread nD τ) O W -∗ WP c (k ⟨⟩) Q) -∗ WP c (.op (.semSignal (n, .tc) barS (1#32).toInt) k) Q) := by
  subst hn
  iintro ⟨#Hr, Ht, Hs, HO⟩ Hk
  ihave ⟨#HI, #HR⟩ := (rec_bar m ρ K (nxt r c)) $$ Hr
  iapply (Rounds.wp_signal 𝒱₀ ER (sched m ρ) (c : Thread nD τ) none (dst := (nxt r c : Thread nD τ)) (κ := K (nxt r c, .inl ()))
      (d := r.rev) (by rw [duties_bar]; exact Finset.mem_univ _) ((amount_bar m ρ (nxt r c) r.rev).trans (by decide)) () O rfl) $$ [HO Ht Hs]
  · isplitr; · iexact HI
    isplitl [HO]; · iexact HO
    isplitl [Ht]; · iexact Ht
    isplitl [Hs]
    · rw [payload_bar]; unfold barPay
      rw [nxt_rev, show dn r.rev = up r from Fin.ext (by show 31 - r.rev.val = 1 + r.val; rw [Fin.val_rev]; omega)]
      iexact Hs
    iexact HR
  iexact Hk

theorem wp_signals {α : Type} {Q : α → sProp 𝕄} (c : Dev nD) (l : List (Fin 31)) (k : Prog (Eff F) α) (O : CellTallies nD τ sig Unit) (W : Waits sig Unit) :
    iprop(records m ρ K ∗ bigSepL l (fun r => iprop(dutyTok ER (barCell (nxt r c)) 0 r.rev ∗ ∃ f, slotPts (F := F) c (up r) f))
        ∗ owes (c : Thread nD τ) (O + owesBar c l) W)
      ⊢ iprop((owes (c : Thread nD τ) O W -∗ WP c k Q) -∗ WP c (signals c l k) Q) := by
  induction l with
  | nil =>
    iintro ⟨-, -, HO⟩ Hk
    unfold owesBar signals
    rw [List.map_nil, List.sum_nil, add_zero]
    iapply Hk; iexact HO
  | cons r l ih =>
    rw [bigSepL_cons', show O + owesBar c (r :: l) = (O + owesBar c l) + tallyAt (barCell (nxt r c)) () 1 by
      unfold owesBar; rw [List.map_cons, List.sum_cons, add_assoc, add_comm (tallyAt _ _ _)]]
    iintro ⟨#Hr, ⟨⟨Ht, Hs⟩, Hl⟩, HO⟩ Hk
    unfold signals
    iapply (wp_signal_to m ρ K c r _ (dev_eq c r (devAt_lt c r)) (O + owesBar c l) W) $$ [Ht Hs HO]
    · isplitr; · iexact Hr
      isplitl [Ht]; · iexact Ht
      isplitl [Hs]; · iexact Hs
      iexact HO
    iintro HO
    iapply ih $$ [Hl HO]
    · isplitr; · iexact Hr
      isplitl [Hl] <;> iassumption
    iexact Hk

theorem wp_send_to {α : Type} {Q : α → sProp 𝕄} (c : Dev nD) (r : Fin 31) (n : Dev nD) (hn : n = nxt r c)
    {hsc : (slot (dn r) : Memref sig (Dev.tc n : Thread nD τ).2.kind .vmem S128x128 .bf16).view.ref.isScScratch = false}
    {hsrc : (srcOf c r).view.WordExact} {hdst : (slot (dn r)).view.WordExact}
    {hsem : DmaTarget.Typed .vmem (.dma (recvS (dn r))) (.remote (Dev.tc n : Thread nD τ) (slot (dn r) : Memref sig .tc .vmem S128x128 .bf16) (.dma (sendS (up r))) hsc)}
    {k : PUnit → Prog (Eff F) α} (O : CellTallies nD τ sig Unit) (W : Waits sig Unit) :
    iprop(records m ρ K ∗ srcPts m ρ c r ∗ barPay (F := F) c r
        ∗ dutyTok ER (sendCell c r) 0 0 ∗ dutyTok ER (recvCell (nxt r c) (dn r)) 0 0
        ∗ owes (c : Thread nD τ) (O + tallyAt (recvCell (nxt r c) (dn r)) () N) W)
      ⊢ iprop(((cred (tallyAt (sendCell c r) () N) ∗ owes (c : Thread nD τ) O W) -∗ WP c (k ⟨⟩) Q)
          -∗ WP c (.op (.enqueueDma (srcOf c r) (.remote (Dev.tc n : Thread nD τ) (slot (dn r)) (.dma (sendS (up r))) hsc) (.dma (recvS (dn r))) hsrc hdst hsem) k) Q) := by
  subst hn
  obtain ⟨κ, hκ⟩ := rec_recv m ρ K (nxt r c) (dn r) (dn_ne r)
  unfold barPay
  iintro ⟨#Hr, Hx, ⟨%fd, Hd⟩, Ht, Ht', HO⟩ Hk
  ihave ⟨#HI, #HR⟩ := (rec_send m ρ K c r) $$ Hr
  ihave ⟨#HI', #HR'⟩ := hκ $$ Hr
  iapply (Rounds.wp_send_pointsTo 𝒱₀ ER (sched m ρ) (c : Thread nD τ) none (κ₁ := K (c, .inr (.inl r))) (κ₂ := κ)
    (c' := (nxt r c : Thread nD τ)) (src := srcOf c r) (dst := (slot (dn r) : Memref sig .tc .vmem S128x128 .bf16)) (sS := .dma (sendS (up r))) (sem := .dma (recvS (dn r)))
    (r₁ := 0) (r₂ := 0) (d₁ := 0) (d₂ := 0) (q := fullShare) (fs := xb m ρ c) (fd := fd)
    (by rw [duties_send]; exact Finset.mem_singleton_self _) (by rw [duties_recv _ _ _ _ (dn_ne r)]; exact Finset.mem_singleton_self _)
    () () N rfl (amount_send m ρ c r 0) (amount_recv m ρ (nxt r c) (dn r) (dn_ne r) 0) O rfl (W := W)
    (by rw [payload_send]; unfold srcPts; exact BI.Entails.refl _)
    (by rw [payload_recv _ _ _ _ (dn_ne r)]; exact Entails.of_eq (send_lands m ρ c r fd))) $$ [Hx Hd Ht Ht' HO]
  · isplitr; · iexact HI
    isplitr; · iexact HI'
    isplitl [Hx]; · unfold srcPts; iexact Hx
    isplitl [Hd]; · unfold slotPts; iexact Hd
    isplitl [HO]; · iexact HO
    isplitl [Ht]; · iexact Ht
    isplitr; · iexact HR
    isplitl [Ht']; · iexact Ht'
    iexact HR'
  iexact Hk

theorem wp_sends {α : Type} {Q : α → sProp 𝕄} (c : Dev nD) (l : List (Fin 31)) (k : Prog (Eff F) α) (O : CellTallies nD τ sig Unit) (W : Waits sig Unit) :
    iprop(records m ρ K
        ∗ bigSepL l (fun r => iprop(srcPts m ρ c r ∗ barPay (F := F) c r ∗ dutyTok ER (sendCell c r) 0 0 ∗ dutyTok ER (recvCell (nxt r c) (dn r)) 0 0))
        ∗ owes (c : Thread nD τ) (O + owesRecv c l) W)
      ⊢ iprop(((bigSepL l (fun r => (cred (tallyAt (sendCell c r) () N) : sProp 𝕄)) ∗ owes (c : Thread nD τ) O W) -∗ WP c k Q)
          -∗ WP c (sends c l k) Q) := by
  induction l with
  | nil =>
    iintro ⟨-, -, HO⟩ Hk
    unfold owesRecv sends
    rw [List.map_nil, List.sum_nil, add_zero]
    iapply Hk
    isplitr; · rw [bigSepL_nil]; iempintro
    iexact HO
  | cons r l ih =>
    rw [bigSepL_cons', bigSepL_cons', show O + owesRecv c (r :: l) = (O + owesRecv c l) + tallyAt (recvCell (nxt r c) (dn r)) () N by
      unfold owesRecv; rw [List.map_cons, List.sum_cons, add_assoc, add_comm (tallyAt _ _ _)]]
    iintro ⟨#Hr, ⟨⟨Hx, Hd, Ht, Ht'⟩, Hl⟩, HO⟩ Hk
    unfold sends
    iapply (wp_send_to m ρ K c r _ (dev_eq c r (devAt_lt c r)) (O + owesRecv c l) W) $$ [Hx Hd Ht Ht' HO]
    · isplitr; · iexact Hr
      isplitl [Hx]; · iexact Hx
      isplitl [Hd]; · iexact Hd
      isplitl [Ht]; · iexact Ht
      isplitl [Ht']; · iexact Ht'
      iexact HO
    iintro ⟨Hc, HO⟩
    iapply ih $$ [Hl HO]
    · isplitr; · iexact Hr
      isplitl [Hl] <;> iassumption
    iintro ⟨Hcs, HO⟩
    iapply Hk
    isplitl [Hc Hcs]
    · isplitl [Hc] <;> iassumption
    iexact HO

theorem wp_sendWaits {α : Type} {Q : α → sProp 𝕄} (c : Dev nD) (l : List (Fin 31)) (k : Prog (Eff F) α) :
    iprop(records m ρ K ∗ bigSepL l (fun r => iprop(cred (tallyAt (sendCell c r) () N) ∗ atPos ER (sendCell c r) 0 ∅ 0)) ∗ owes0 (F := F) c)
      ⊢ iprop(((bigSepL l (fun r => iprop(srcPts m ρ c r ∗ semVal (sendCell c r) 0)) ∗ owes0 (F := F) c) -∗ WP c k Q)
          -∗ WP c (sendWaits c l k) Q) := by
  induction l with
  | nil =>
    iintro ⟨-, -, HO⟩ Hk
    unfold sendWaits
    iapply Hk
    isplitr; · rw [bigSepL_nil]; iempintro
    iexact HO
  | cons r l ih =>
    rw [bigSepL_cons', bigSepL_cons']
    unfold owes0 at ih ⊢
    iintro ⟨#Hr, ⟨⟨Hc, Ha⟩, Hl⟩, ⟨%W, HO⟩⟩ Hk
    ihave ⟨#HI, #HR⟩ := (rec_send m ρ K c r) $$ Hr
    unfold sendWaits
    iapply (Rounds.wp_wait_rest_token 𝒱₀ ER (sched m ρ) (c : Thread nD τ) none (κ := K (c, .inr (.inl r)))
        (wpE_waitDma2_eq 𝒱₀ (c : Thread nD τ) none Set.univ) (Set.mem_univ _) () (O := 0) (W := W) (R := 0) (m := 0) (T := ∅)
        (by rw [Nat.zero_add, expect_send])) $$ [Hc HO Ha]
    · isplitr; · iexact HI
      isplitl [Hc]; · iexact Hc
      isplitl [HO]; · iexact HO
      isplitr; · rw [MayWait_zero]; iempintro
      iexact Ha
    iintro ⟨HO, Ha, -, Hpay⟩
    ihave Hx := (Entails.of_eq (rest_send m ρ c r)) $$ Hpay
    imod (Rounds.cell_close ER (sched m ρ) (Set.mem_univ (K (c, .inr (.inl r)))) (fun h => h) (R := 0 + 1) (duties_later m ρ (sendCell c r))) $$ [Ha] with Hz
    · isplitr; · iexact HI
      iexact Ha
    iapply ih $$ [Hl HO]
    · isplitr; · iexact Hr
      isplitl [Hl]; · iexact Hl
      iexists _; iexact HO
    iintro ⟨Hl, HO⟩
    iapply Hk
    isplitl [Hx Hz Hl]
    · isplitl [Hx Hz]
      · isplitl [Hx] <;> iassumption
      iexact Hl
    iexact HO

/-! ## Arrivals -/

/-- Slot `n` before its wait: slot 0 is filled by the device itself, the others are waited for. -/
def pend (c : Dev nD) (n : Fin 32) : sProp 𝕄 :=
  if n = 0 then slotPts c 0 (cB m ρ c) else iprop(cred (tallyAt (recvCell c n) () N) ∗ atPos ER (recvCell c n) 0 ∅ 0)
/-- Slot `n` after it. -/
def landed (c : Dev nD) (n : Fin 32) : sProp 𝕄 :=
  iprop(slotPts c n (cB m ρ c) ∗ if n = 0 then iprop(emp) else semVal (recvCell c n) 0)

theorem wp_recvWait {α : Type} {Q : α → sProp 𝕄} (c : Dev nD) (n : Fin 32) (hn : n ≠ 0) (k : Prog (Eff F) α) :
    iprop(records m ρ K ∗ pend m ρ c n ∗ owes0 (F := F) c)
      ⊢ iprop(((landed m ρ c n ∗ owes0 (F := F) c) -∗ WP c k Q) -∗ WP c (recvWait n k) Q) := by
  obtain ⟨κ, hκ⟩ := rec_recv m ρ K c n hn
  unfold pend landed owes0
  rw [if_neg hn, if_neg hn]
  iintro ⟨#Hr, ⟨Hc, Ha⟩, ⟨%W, HO⟩⟩ Hk
  ihave ⟨#HI, #HR⟩ := hκ $$ Hr
  unfold recvWait
  iapply (Rounds.wp_wait_rest_token 𝒱₀ ER (sched m ρ) (c : Thread nD τ) none (κ := κ)
      (wpE_waitDma2_eq 𝒱₀ (c : Thread nD τ) none Set.univ) (Set.mem_univ _) () (O := 0) (W := W) (R := 0) (m := 0) (T := ∅)
      (by rw [Nat.zero_add, expect_recv _ _ _ _ hn])) $$ [Hc HO Ha]
  · isplitr; · iexact HI
    isplitl [Hc]; · iexact Hc
    isplitl [HO]; · iexact HO
    isplitr; · rw [MayWait_zero]; iempintro
    iexact Ha
  iintro ⟨HO, Ha, -, Hpay⟩
  ihave Hx := (Entails.of_eq (rest_recv m ρ c n hn)) $$ Hpay
  imod (Rounds.cell_close ER (sched m ρ) (Set.mem_univ κ) (fun h => h) (R := 0 + 1) (duties_later m ρ (recvCell c n))) $$ [Ha] with Hz
  · isplitr; · iexact HI
    iexact Ha
  iapply Hk
  isplitl [Hx Hz]
  · isplitl [Hx] <;> iassumption
  iexists _; iexact HO

/-! ## The weights -/

/-- Half `t` of block `s` on its way. -/
def fly (c : Dev nD) (s : Fin 16) (t : Fin 2) : sProp 𝕄 :=
  Flight (EC (F := F)) (c : Thread nD τ) (.dma (wS (slotOf s) t)) () NW iprop(halfPts c (slotOf s) t (kB m ρ c s) ∗ wPts m ρ c s t)
def flying (c : Dev nD) (s : Fin 16) : sProp 𝕄 := iprop(fly m ρ c s 0 ∗ fly m ρ c s 1)
/-- A weight slot nothing is using, -/
def freeHalf (c : Dev nD) (k : Fin 3) (t : Fin 2) : sProp 𝕄 :=
  iprop((∃ f, halfPts (F := F) c k t f) ∗ semVal ((c : Thread nD τ), .dma (wS k t)) 0)
def free (c : Dev nD) (k : Fin 3) : sProp 𝕄 := iprop(freeHalf (F := F) c k 0 ∗ freeHalf (F := F) c k 1)
/-- and the weights of a block. -/
def wBlk (c : Dev nD) (s : Fin 16) : sProp 𝕄 := iprop(wPts m ρ c s 0 ∗ wPts m ρ c s 1)

theorem wp_wStart {α : Type} {Q : α → sProp 𝕄} (c : Dev nD) (s : Fin 16) (t : Fin 2) (k : Prog (Eff F) α) :
    iprop(freeHalf (F := F) c (slotOf s) t ∗ wPts m ρ c s t) ⊢ iprop((fly m ρ c s t -∗ WP c k Q) -∗ WP c (wStart c s t k) Q) := by
  unfold freeHalf wPts
  iintro ⟨⟨⟨%f, Hd⟩, Hv⟩, Hs⟩ Hk
  unfold wStart
  iapply (Transfers.wp_dmaLocal (EC (F := F)) 𝒱₀ (c : Thread nD τ) none (src := wOf c s t) (via := .same) (dst := half (slotOf s) t) (q := fullShare)
      (fs := wts m ρ c) (Sd := (half (slotOf s) t).view.set) (fd := f) () NW rfl NW_pos (Finset.Subset.refl _)) $$ [Hs Hd Hv]
  · isplitl [Hs]; · iexact Hs
    isplitl [Hd]; · unfold halfPts; iexact Hd
    iexact Hv
  iintro Hf
  iapply Hk
  unfold fly wPts
  iapply (Transfers.Flight_mono (EC (F := F)) (c : Thread nD τ) (sep_mono_left (Entails.of_eq (w_lands m ρ c s t f)))) $$ Hf

theorem wp_wWait {α : Type} {Q : α → sProp 𝕄} (c : Dev nD) (s : Fin 16) (t : Fin 2) (k : Prog (Eff F) α) :
    iprop(fly m ρ c s t ∗ owes0 (F := F) c)
      ⊢ iprop(((halfPts c (slotOf s) t (kB m ρ c s) ∗ semVal ((c : Thread nD τ), .dma (wS (slotOf s) t)) 0 ∗ wPts m ρ c s t ∗ owes0 (F := F) c) -∗ WP c k Q)
          -∗ WP c (wWait c s t k) Q) := by
  unfold fly owes0
  iintro ⟨Hf, ⟨%W, HO⟩⟩ Hk
  unfold wWait
  iapply (Transfers.wp_waitLocal (EC (F := F)) 𝒱₀ (c : Thread nD τ) none () (half_N (slotOf s) t)) $$ [Hf HO]
  · isplitl [Hf] <;> iassumption
  iintro ⟨⟨Hd, Hw⟩, Hv, HO⟩
  iapply Hk
  isplitl [Hd]; · iexact Hd
  isplitl [Hv]; · iexact Hv
  isplitl [Hw]; · iexact Hw
  iexists _; iexact HO

/-- Both halves of a block started. -/
theorem wp_start {α : Type} {Q : α → sProp 𝕄} (c : Dev nD) (s : Fin 16) (k : Prog (Eff F) α) :
    iprop(free (F := F) c (slotOf s) ∗ wBlk m ρ c s) ⊢ iprop((flying m ρ c s -∗ WP c k Q) -∗ WP c (wStart c s 0 <| wStart c s 1 k) Q) := by
  unfold free wBlk flying
  iintro ⟨⟨H0, H1⟩, Hw0, Hw1⟩ Hk
  iapply (wp_wStart m ρ c s 0 _) $$ [H0 Hw0]
  · isplitl [H0] <;> iassumption
  iintro Hf0
  iapply (wp_wStart m ρ c s 1 _) $$ [H1 Hw1]
  · isplitl [H1] <;> iassumption
  iintro Hf1
  iapply Hk
  isplitl [Hf0] <;> iassumption

/-! ## Loads and stores -/

theorem wp_slotLoad {α : Type} {Q : α → sProp 𝕄} (c : Dev nD) (n : Fin 32) (f : (cc0_scratch1 : Ref sig .tc).ty.Contents (Elt F)) (k : Vec F S1x128x128 .bf16 → Prog (Eff F) α) :
    slotPts c n f ⊢ iprop((slotPts c n f -∗ WP c (k (cM.view.readAt (Elt F) (slotR n).toLoadRect f)) Q) -∗ WP c (slotLoad n k) Q) := by
  unfold slotPts slotLoad
  exact wp_load 𝒱₀ (c : Thread nD τ) none Set.univ (m := cM) (S := (slot n).view.set) (by rw [← slotR_set])

theorem wp_wLoad {α : Type} {Q : α → sProp 𝕄} (c : Dev nD) (kk : Fin 3) (f : (cc0_scratch2 : Ref sig .tc).ty.Contents (Elt F)) (k : Vec F S1x256x8192 .f32 → Prog (Eff F) α) :
    iprop(halfPts c kk 0 f ∗ halfPts c kk 1 f)
      ⊢ iprop(((halfPts c kk 0 f ∗ halfPts c kk 1 f) -∗ WP c (k (kM.view.readAt (Elt F) (wR kk).toLoadRect f)) Q) -∗ WP c (wLoad kk k) Q) := by
  iintro H Hk
  ihave H := (halves_whole c kk f).2 $$ H
  unfold wLoad
  iapply (wp_load 𝒱₀ (c : Thread nD τ) none Set.univ (m := kM) (S := kM.view.setOn (wR kk).set) (Finset.Subset.refl _)) $$ H
  iintro H
  iapply Hk
  iapply (halves_whole c kk f).1 $$ H

/-- The result's staging buffer. -/
def outPts (c : Dev nD) (o : Vec F S128x8192 .f32) : sProp 𝕄 := (c : Thread nD τ).loc cc0_stg1_0 ↦{fullShare} o

theorem hz : (![0, 0] : Fin 2 → Nat) = fun _ => 0 := funext fun a => by fin_cases a <;> rfl

abbrev oR : Rect S128x8192 := Rect.unit (s := S128x8192) ![0, 0] S128x8192.size inb_S128x8192_S128x8192_0_0
theorem read_o (o : Vec F S128x8192 .f32) : oM.view.readAt (Elt F) oR.toLoadRect o = o :=
  Memref.readAt_unit_zero (Elt F) cc0_stg1_0 hz _ o

theorem wp_oLoad {α : Type} {Q : α → sProp 𝕄} (c : Dev nD) (o : Vec F S128x8192 .f32) (k : Vec F S128x8192 .f32 → Prog (Eff F) α) :
    outPts c o ⊢ iprop((outPts c o -∗ WP c (k o) Q) -∗ WP c (oLoad k) Q) := by
  unfold outPts oLoad
  iintro H Hk
  iapply (wp_load 𝒱₀ (c : Thread nD τ) none Set.univ (m := oM) (Finset.subset_univ _)) $$ H
  iintro H
  rw [read_o]
  iapply Hk; iexact H

theorem wp_oStore {α : Type} {Q : α → sProp 𝕄} (c : Dev nD) (o : Vec F S128x8192 .f32) (v : FVec F S128x8192 .f32) (k : Prog (Eff F) α) :
    outPts c o ⊢ iprop((outPts c v -∗ WP c k Q) -∗ WP c (oStore v k) Q) := by
  unfold outPts oStore
  iintro H Hk
  iapply (wp_store 𝒱₀ (c : Thread nD τ) none Set.univ (m := oM) (r := Rect.unit (s := S128x8192) ![0, 0] S128x8192.size inb_S128x8192_S128x8192_0_0) (Mk := Finset.univ) (Finset.subset_univ _)) $$ H
  iintro H
  iapply Hk
  ihave H := (Entails.of_eq (congrArg (fun g => ((c : Thread nD τ).loc cc0_stg1_0 ↦{fullShare} g : sProp 𝕄))
    (Memref.write_access_unit_zero_univ (Elt F) cc0_stg1_0 hz inb_S128x8192_S128x8192_0_0 o v))) $$ H
  iexact H

/-! ## The blocks of the product -/

/-- The result after block `s`, from the result before it. -/
def stepVal (c : Dev nD) (s : Fin 16) (o : Vec F S128x8192 .f32) : FVec F S128x8192 .f32 :=
  accum (slotVec m ρ c (lo s)) (slotVec m ρ c (hi s)) (wVec m ρ c s) o
/-- The result after the first block. -/
def firstVal (c : Dev nD) : FVec F S128x8192 .f32 := part (slotVec m ρ c 0) (slotVec m ρ c 1) (wVec m ρ c 0)

/-- The slots of block `s` before its waits, and after them. -/
def pend2 (c : Dev nD) (s : Fin 16) : sProp 𝕄 := iprop(pend m ρ c (lo s) ∗ pend m ρ c (hi s))
def landed2 (c : Dev nD) (s : Fin 16) : sProp 𝕄 := iprop(landed m ρ c (lo s) ∗ landed m ρ c (hi s))

theorem landed_slot (c : Dev nD) (n : Fin 32) : landed m ρ c n ⊢ iprop(slotPts c n (cB m ρ c) ∗ (slotPts c n (cB m ρ c) -∗ landed m ρ c n)) := by
  unfold landed
  iintro ⟨H, Hz⟩
  isplitl [H]; · iexact H
  iintro H; isplitl [H] <;> iassumption

/-- The waits for the weights of a block, and its loads. -/
theorem wp_wWaits {α : Type} {Q : α → sProp 𝕄} (c : Dev nD) (s : Fin 16) (k : Prog (Eff F) α) :
    iprop(flying m ρ c s ∗ owes0 (F := F) c)
      ⊢ iprop(((halfPts c (slotOf s) 0 (kB m ρ c s) ∗ halfPts c (slotOf s) 1 (kB m ρ c s)
          ∗ semVal ((c : Thread nD τ), .dma (wS (slotOf s) 0)) 0 ∗ semVal ((c : Thread nD τ), .dma (wS (slotOf s) 1)) 0 ∗ wBlk m ρ c s ∗ owes0 (F := F) c) -∗ WP c k Q)
        -∗ WP c (wWait c s 0 <| wWait c s 1 k) Q) := by
  unfold flying wBlk
  iintro ⟨⟨H0, H1⟩, HO⟩ Hk
  iapply (wp_wWait m ρ c s 0 _) $$ [H0 HO]
  · isplitl [H0] <;> iassumption
  iintro ⟨Hd0, Hv0, Hw0, HO⟩
  iapply (wp_wWait m ρ c s 1 _) $$ [H1 HO]
  · isplitl [H1] <;> iassumption
  iintro ⟨Hd1, Hv1, Hw1, HO⟩
  iapply Hk
  isplitl [Hd0]; · iexact Hd0
  isplitl [Hd1]; · iexact Hd1
  isplitl [Hv0]; · iexact Hv0
  isplitl [Hv1]; · iexact Hv1
  isplitl [Hw0 Hw1]
  · isplitl [Hw0] <;> iassumption
  iexact HO

theorem free_back (c : Dev nD) (kk : Fin 3) (f : (cc0_scratch2 : Ref sig .tc).ty.Contents (Elt F)) :
    iprop((halfPts c kk 0 f ∗ halfPts c kk 1 f) ∗ semVal ((c : Thread nD τ), .dma (wS kk 0)) 0 ∗ semVal ((c : Thread nD τ), .dma (wS kk 1)) 0)
      ⊢ free (F := F) c kk := by
  unfold free freeHalf
  iintro ⟨⟨H0, H1⟩, Hv0, Hv1⟩
  isplitl [H0 Hv0]
  · isplitl [H0]; · iexists f; iexact H0
    iexact Hv0
  isplitl [H1]; · iexists f; iexact H1
  iexact Hv1

theorem wp_mulStep {α : Type} {Q : α → sProp 𝕄} (c : Dev nD) (s : Fin 16) (hs : s ≠ 0) (o : Vec F S128x8192 .f32) (k : Prog (Eff F) α) :
    iprop(records m ρ K ∗ pend2 m ρ c s ∗ flying m ρ c s ∗ outPts c o ∗ owes0 (F := F) c)
      ⊢ iprop(((landed2 m ρ c s ∗ free (F := F) c (slotOf s) ∗ wBlk m ρ c s ∗ outPts c (stepVal m ρ c s o) ∗ owes0 (F := F) c) -∗ WP c k Q)
          -∗ WP c (mulStep c s k) Q) := by
  have hlo : lo s ≠ 0 := fun h => hs (Fin.ext (by have h2 : 2 * s.val = 0 := congrArg (fun x : Fin 32 => x.val) h; show s.val = 0; omega))
  have hhi : hi s ≠ 0 := fun h => absurd (show 2 * s.val + 1 = 0 from congrArg (fun x : Fin 32 => x.val) h) (by omega)
  unfold pend2 landed2
  iintro ⟨#Hr, ⟨Hp0, Hp1⟩, Hf, Ho, HO⟩ Hk
  unfold mulStep
  iapply (wp_recvWait m ρ K c (lo s) hlo _) $$ [Hp0 HO]
  · isplitr; · iexact Hr
    isplitl [Hp0] <;> iassumption
  iintro ⟨Hl0, HO⟩
  iapply (wp_recvWait m ρ K c (hi s) hhi _) $$ [Hp1 HO]
  · isplitr; · iexact Hr
    isplitl [Hp1] <;> iassumption
  iintro ⟨Hl1, HO⟩
  iapply (wp_wWaits m ρ c s _) $$ [Hf HO]
  · isplitl [Hf] <;> iassumption
  iintro ⟨Hd0, Hd1, Hv0, Hv1, Hw, HO⟩
  ihave ⟨Hs0, Hc0⟩ := (landed_slot m ρ c (lo s)) $$ Hl0
  iapply (wp_slotLoad c (lo s) _ _) $$ Hs0; iintro Hs0
  ihave ⟨Hs1, Hc1⟩ := (landed_slot m ρ c (hi s)) $$ Hl1
  iapply (wp_slotLoad c (hi s) _ _) $$ Hs1; iintro Hs1
  iapply (wp_wLoad c (slotOf s) (kB m ρ c s) _) $$ [Hd0 Hd1]
  · isplitl [Hd0] <;> iassumption
  iintro Hd
  iapply (wp_oLoad c o _) $$ Ho; iintro Ho
  iapply (wp_oLoad c o _) $$ Ho; iintro Ho
  iapply (wp_oStore c o _ _) $$ Ho; iintro Ho
  iapply Hk
  isplitl [Hs0 Hc0 Hs1 Hc1]
  · isplitl [Hs0 Hc0]
    · iapply Hc0 $$ Hs0
    iapply Hc1 $$ Hs1
  isplitl [Hd Hv0 Hv1]
  · iapply (free_back c (slotOf s) (kB m ρ c s))
    isplitl [Hd]; · iexact Hd
    isplitl [Hv0] <;> iassumption
  isplitl [Hw]; · iexact Hw
  isplitl [Ho]; · iexact Ho
  iexact HO

/-- A list of blocks runs on from blocks `a` and `b` in flight and slot `k` free. -/
def good : Fin 16 → Fin 16 → Fin 3 → List (Fin 16 × Fin 16) → Prop
  | a, b, k, [] => a = 14 ∧ b = 15 ∧ k = 1
  | a, b, k, p :: l => p.1 = a ∧ a ≠ 0 ∧ slotOf p.2 = k ∧ good b p.2 (slotOf a) l

theorem good_midList : good 1 2 0 midList := by
  unfold midList
  repeat' (first | exact ⟨rfl, by decide, rfl⟩ | refine ⟨rfl, by decide, rfl, ?_⟩)

theorem wp_mids {α : Type} {Q : α → sProp 𝕄} (c : Dev nD) (l : List (Fin 16 × Fin 16)) (k : Prog (Eff F) α) : ∀ (a b : Fin 16) (kk : Fin 3) (hg : good a b kk l) (o : Vec F S128x8192 .f32),
    iprop(records m ρ K ∗ bigSepL l (fun p => pend2 m ρ c p.1) ∗ bigSepL l (fun p => wBlk m ρ c p.2)
        ∗ flying m ρ c a ∗ flying m ρ c b ∗ free (F := F) c kk ∗ outPts c o ∗ owes0 (F := F) c)
      ⊢ iprop(((bigSepL l (fun p => landed2 m ρ c p.1) ∗ bigSepL l (fun p => wBlk m ρ c p.1)
            ∗ flying m ρ c 14 ∗ flying m ρ c 15 ∗ free (F := F) c 1 ∗ outPts c (l.foldl (fun o p => stepVal m ρ c p.1 o) o) ∗ owes0 (F := F) c) -∗ WP c k Q)
          -∗ WP c (mids c l k) Q) := by
  induction l with
  | nil =>
    rintro a b kk ⟨rfl, rfl, rfl⟩ o
    iintro ⟨-, -, -, Ha, Hb, Hf, Ho, HO⟩ Hk
    unfold mids
    iapply Hk
    isplitr; · rw [bigSepL_nil]; iempintro
    isplitr; · rw [bigSepL_nil]; iempintro
    isplitl [Ha]; · iexact Ha
    isplitl [Hb]; · iexact Hb
    isplitl [Hf]; · iexact Hf
    isplitl [Ho]; · iexact Ho
    iexact HO
  | cons p l ih =>
    rintro a b kk ⟨rfl, ha, rfl, hg⟩ o
    rw [bigSepL_cons', bigSepL_cons', bigSepL_cons', bigSepL_cons']
    iintro ⟨#Hr, ⟨Hp, Hpl⟩, ⟨Hw, Hwl⟩, Ha, Hb, Hf, Ho, HO⟩ Hk
    unfold mids
    iapply (wp_start m ρ c p.2 _) $$ [Hf Hw]
    · isplitl [Hf] <;> iassumption
    iintro Hn
    iapply (wp_mulStep m ρ K c p.1 ha o _) $$ [Hp Ha Ho HO]
    · isplitr; · iexact Hr
      isplitl [Hp]; · iexact Hp
      isplitl [Ha]; · iexact Ha
      isplitl [Ho] <;> iassumption
    iintro ⟨Hl, Hf, Hw, Ho, HO⟩
    iapply (ih b p.2 (slotOf p.1) hg (stepVal m ρ c p.1 o)) $$ [Hpl Hwl Hb Hn Hf Ho HO]
    · isplitr; · iexact Hr
      isplitl [Hpl]; · iexact Hpl
      isplitl [Hwl]; · iexact Hwl
      isplitl [Hb]; · iexact Hb
      isplitl [Hn]; · iexact Hn
      isplitl [Hf]; · iexact Hf
      isplitl [Ho] <;> iassumption
    iintro ⟨Hll, Hwl, H14, H15, Hf, Ho, HO⟩
    iapply Hk
    isplitl [Hl Hll]; · isplitl [Hl] <;> iassumption
    isplitl [Hw Hwl]; · isplitl [Hw] <;> iassumption
    isplitl [H14]; · iexact H14
    isplitl [H15]; · iexact H15
    isplitl [Hf]; · iexact Hf
    isplitl [Ho]; · iexact Ho
    iexact HO

theorem wp_first {α : Type} {Q : α → sProp 𝕄} (c : Dev nD) (o : Vec F S128x8192 .f32) (k : Prog (Eff F) α) :
    iprop(records m ρ K ∗ (slotPts c 0 (cB m ρ c) ∗ pend m ρ c 1) ∗ (wBlk m ρ c 0 ∗ wBlk m ρ c 1 ∗ wBlk m ρ c 2)
        ∗ (free (F := F) c 0 ∗ free (F := F) c 1 ∗ free (F := F) c 2) ∗ outPts c o ∗ owes0 (F := F) c)
      ⊢ iprop(((landed2 m ρ c 0 ∗ wBlk m ρ c 0 ∗ flying m ρ c 1 ∗ flying m ρ c 2 ∗ free (F := F) c 0 ∗ outPts c (firstVal m ρ c) ∗ owes0 (F := F) c) -∗ WP c k Q)
          -∗ WP c (first c k) Q) := by
  iintro ⟨#Hr, ⟨Hs0, Hp1⟩, ⟨Hw0, Hw1, Hw2⟩, ⟨Hf0, Hf1, Hf2⟩, Ho, HO⟩ Hk
  unfold first
  iapply (wp_start m ρ c 0 _) $$ [Hf0 Hw0]
  · isplitl [Hf0]; · iexact Hf0
    iexact Hw0
  iintro Hg0
  iapply (wp_start m ρ c 1 _) $$ [Hf1 Hw1]
  · isplitl [Hf1]; · iexact Hf1
    iexact Hw1
  iintro Hg1
  iapply (wp_start m ρ c 2 _) $$ [Hf2 Hw2]
  · isplitl [Hf2]; · iexact Hf2
    iexact Hw2
  iintro Hg2
  iapply (wp_recvWait m ρ K c 1 (by decide) _) $$ [Hp1 HO]
  · isplitr; · iexact Hr
    isplitl [Hp1] <;> iassumption
  iintro ⟨Hl1, HO⟩
  iapply (wp_wWaits m ρ c 0 _) $$ [Hg0 HO]
  · isplitl [Hg0] <;> iassumption
  iintro ⟨Hd0, Hd1, Hv0, Hv1, Hw, HO⟩
  iapply (wp_slotLoad c 0 _ _) $$ Hs0; iintro Hs0
  ihave ⟨Hs1, Hc1⟩ := (landed_slot m ρ c 1) $$ Hl1
  iapply (wp_slotLoad c 1 _ _) $$ Hs1; iintro Hs1
  iapply (wp_wLoad c 0 (kB m ρ c 0) _) $$ [Hd0 Hd1]
  · isplitl [Hd0]; · iexact Hd0
    iexact Hd1
  iintro Hd
  iapply (wp_oLoad c o _) $$ Ho; iintro Ho
  iapply (wp_oStore c o _ _) $$ Ho; iintro Ho
  iapply Hk
  isplitl [Hs0 Hs1 Hc1]
  · unfold landed2
    isplitl [Hs0]
    · unfold landed
      isplitl [Hs0]; · iexact Hs0
      rw [if_pos (show lo 0 = 0 from rfl)]; iempintro
    iapply Hc1 $$ Hs1
  isplitl [Hw]; · iexact Hw
  isplitl [Hg1]; · iexact Hg1
  isplitl [Hg2]; · iexact Hg2
  isplitl [Hd Hv0 Hv1]
  · iapply (free_back c 0 (kB m ρ c 0))
    isplitl [Hd]; · iexact Hd
    isplitl [Hv0]; · iexact Hv0
    iexact Hv1
  isplitl [Ho]; · iexact Ho
  iexact HO

end Rules

end Cert.KernelIdeal.Body

end
-- ==== Proof.KernelIdeal.Body.lean ====
/-
  The body of the kernel, run from what a device starts with to what it leaves.
-/
module

public import proofs.«01_k».proof.Proof.KernelIdeal.Loops
public import proofs.«01_k».proof.Proof.Gen.KernelIdeal.Points

@[expose] public section

set_option maxRecDepth 65536

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ)

/-! ## Families and lists -/

section Regroup

omit [FloatOps F] in
theorem peers_eq (Φ : Fin 31 → sProp 𝕄) : bigSep Finset.univ Φ = bigSepL peers Φ :=
  bigSep_univ_eq_bigSepL peers (by decide) (by decide) Φ

omit [FloatOps F] in
/-- The slots: the own, and the peers'. -/
theorem slots_eq (Φ : Fin 32 → sProp 𝕄) : bigSep Finset.univ Φ = iprop(Φ 0 ∗ bigSep Finset.univ fun r : Fin 31 => Φ (up r)) := by
  rw [bigSep_univ_eq_bigSepL (0 :: peers.map up) (by decide) (by decide) Φ, bigSepL_cons', bigSepL_map, peers_eq]

omit [FloatOps F] in
/-- The slots, two to a block. -/
theorem pairs_eq (Φ : Fin 32 → sProp 𝕄) : bigSep Finset.univ Φ = bigSep Finset.univ fun s : Fin 16 => iprop(Φ (lo s) ∗ Φ (hi s)) := by
  rw [bigSep_univ_equiv (finProdFinEquiv : Fin 16 × Fin 2 ≃ Fin 32) Φ, bigSep_univ_prod]
  refine bigSep_congr fun s _ => ?_
  rw [bigSep_fin_two]
  exact congrArg₂ (fun a b : Fin 32 => iprop(Φ a ∗ Φ b)) (Fin.ext (by simp [finProdFinEquiv])) (Fin.ext (by simp [finProdFinEquiv]; omega))

omit [FloatOps F] in
/-- The blocks, as they are multiplied, -/
theorem blocks_eq (Φ : Fin 16 → sProp 𝕄) :
    bigSep Finset.univ Φ = iprop(Φ 0 ∗ bigSepL midList (fun p => Φ p.1) ∗ Φ 14 ∗ Φ 15) := by
  rw [bigSep_univ_eq_bigSepL (0 :: (midList.map Prod.fst ++ [14, 15])) (by decide) (by decide) Φ, bigSepL_cons', bigSepL_append, bigSepL_map]
  rfl

omit [FloatOps F] in
/-- and as their weights are fetched. -/
theorem fetches_eq (Φ : Fin 16 → sProp 𝕄) :
    bigSep Finset.univ Φ = iprop((Φ 0 ∗ Φ 1 ∗ Φ 2) ∗ bigSepL midList (fun p => Φ p.2)) := by
  rw [bigSep_univ_eq_bigSepL ([0, 1, 2] ++ midList.map Prod.snd) (by decide) (by decide) Φ, bigSepL_append, bigSepL_map]
  rfl

/-- The slots before the first block: the own filled, the others to come. -/
theorem pends_eq (c : Dev nD) :
    iprop(slotPts c 0 (cB m ρ c) ∗ bigSep Finset.univ fun r : Fin 31 => iprop(cred (tallyAt (recvCell c (up r)) () N) ∗ atPos ER (recvCell c (up r)) 0 ∅ 0))
      = iprop((slotPts c 0 (cB m ρ c) ∗ pend m ρ c 1) ∗ bigSepL midList (fun p => pend2 m ρ c p.1) ∗ pend2 m ρ c 14 ∗ pend2 m ρ c 15) := by
  have h0 : pend m ρ c 0 = slotPts c 0 (cB m ρ c) := by unfold pend; rw [if_pos rfl]
  have h : bigSep Finset.univ (pend m ρ c) = iprop(slotPts c 0 (cB m ρ c) ∗ bigSep Finset.univ fun r : Fin 31 =>
      iprop(cred (tallyAt (recvCell c (up r)) () N) ∗ atPos ER (recvCell c (up r)) 0 ∅ 0)) := by
    rw [slots_eq, h0]
    exact congrArg _ (bigSep_congr fun r _ => by unfold pend; rw [if_neg (up_ne r)])
  have h' : bigSep Finset.univ (pend m ρ c) = bigSep Finset.univ (pend2 m ρ c) := (pairs_eq _).trans (bigSep_congr fun s _ => by unfold pend2; rfl)
  rw [← h, h', blocks_eq, ← h0]
  unfold pend2; rfl

/-- The slots after the last block. -/
theorem landeds_eq (c : Dev nD) :
    iprop(landed2 m ρ c 0 ∗ bigSepL midList (fun p => landed2 m ρ c p.1) ∗ landed2 m ρ c 14 ∗ landed2 m ρ c 15)
      = iprop(((c : Thread nD τ).loc cc0_scratch1 ↦{fullShare} cB m ρ c) ∗ (emp : sProp 𝕄) ∗ bigSep Finset.univ fun r : Fin 31 => semVal (recvCell c (up r)) 0) := by
  rw [← blocks_eq (landed2 m ρ c), slots_split c (cB m ρ c)]
  refine ((bigSep_congr fun s _ => by unfold landed2; rfl).trans (pairs_eq (landed m ρ c)).symm).trans ?_
  have h := slots_eq (F := F) fun n => if n = 0 then iprop(emp) else semVal (recvCell c n) 0
  rw [if_pos rfl, bigSep_congr (Ψ := fun r : Fin 31 => (semVal (recvCell c (up r)) 0 : sProp 𝕄)) fun r _ => if_neg (up_ne r)] at h
  rw [← h, ← bigSep_sep']
  exact bigSep_congr fun n _ => by unfold landed; rfl

/-- The weight slots. -/
theorem frees_eq (c : Dev nD) :
    (bigSep Finset.univ fun kt : Fin 3 × Fin 2 => freeHalf (F := F) c kt.1 kt.2) = iprop(free c 0 ∗ free c 1 ∗ free c 2) := by
  rw [bigSep_univ_prod, bigSep_univ_eq_bigSepL [0, 1, 2] (by decide) (by decide)]
  refine (congrArg (bigSepL [0, 1, 2]) (funext fun k => ?_) : _ = bigSepL [0, 1, 2] (free (F := F) c))
  rw [bigSep_fin_two]; unfold free; rfl

/-- The weights, block by block. -/
theorem wBlks_eq (c : Dev nD) : ((c : Thread nD τ).loc main_arg1 ↦{fullShare} wts m ρ c : sProp 𝕄) = bigSep Finset.univ (wBlk m ρ c) := by
  rw [w_split, bigSep_univ_prod]
  exact bigSep_congr fun s _ => by rw [bigSep_fin_two]; unfold wBlk; rfl

theorem slot_some (c : Dev nD) (n : Fin 32) (f : (cc0_scratch1 : Ref sig .tc).ty.Contents (Elt F)) :
    slotPts c n f ⊢ (iprop(∃ f, slotPts (F := F) c n f) : sProp 𝕄) := by
  iintro H; iexists f; iexact H
theorem slots_some (c : Dev nD) (f : (cc0_scratch1 : Ref sig .tc).ty.Contents (Elt F)) :
    (bigSep Finset.univ fun r : Fin 31 => slotPts c (up r) f) ⊢ (bigSep Finset.univ fun r : Fin 31 => iprop(∃ f, slotPts (F := F) c (up r) f) : sProp 𝕄) :=
  bigSep_mono fun r _ => slot_some c (up r) f
theorem half_some (c : Dev nD) (k : Fin 3) (t : Fin 2) (f : (cc0_scratch2 : Ref sig .tc).ty.Contents (Elt F)) :
    halfPts c k t f ⊢ (iprop(∃ f, halfPts (F := F) c k t f) : sProp 𝕄) := by
  iintro H; iexists f; iexact H

end Regroup

/-! ## What a device starts with and leaves -/

/-- Its places in the protocol and the tokens it pays with. -/
def linear (c : Dev nD) : sProp 𝕄 :=
  iprop(atPos ER (barCell c) 0 ∅ 0
    ∗ (bigSep Finset.univ fun r : Fin 31 => atPos ER (sendCell c r) 0 ∅ 0)
    ∗ (bigSep Finset.univ fun r : Fin 31 => atPos ER (recvCell c (up r)) 0 ∅ 0)
    ∗ (bigSep Finset.univ fun r : Fin 31 => dutyTok ER (barCell (nxt r c)) 0 r.rev)
    ∗ (bigSep Finset.univ fun r : Fin 31 => dutyTok ER (sendCell c r) 0 0)
    ∗ (bigSep Finset.univ fun r : Fin 31 => dutyTok ER (recvCell (nxt r c) (dn r)) 0 0))

/-- What it will be paid. -/
def credits (c : Dev nD) : sProp 𝕄 :=
  iprop(cred (tallyAt (barCell c) () 31) ∗ bigSep Finset.univ fun r : Fin 31 => cred (tallyAt (recvCell c (up r)) () N))

/-- The counters of the weight copies, at zero. -/
def wSems (c : Dev nD) : sProp 𝕄 := bigSep Finset.univ fun kt : Fin 3 × Fin 2 => semVal ((c : Thread nD τ), .dma (wS kt.1 kt.2)) 0

/-- The weights. -/
def wtsPts (c : Dev nD) : sProp 𝕄 := (c : Thread nD τ).loc main_arg1 ↦{fullShare} wts m ρ c

def start (c : Dev nD) : sProp 𝕄 :=
  iprop((∃ K, records m ρ K ∗ linear (F := F) c) ∗ credits (F := F) c ∗ levAts L lv ∗ wSems (F := F) c ∗ wtsPts m ρ c)

/-- The scratch buffers, whatever they hold. -/
def scr (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f))

def Φ₀ (c : Dev nD) : sProp 𝕄 := iprop(start m ρ c ∗ scr (F := F) c)
def Φ₁ (c : Dev nD) : sProp 𝕄 :=
  iprop(scr (F := F) c ∗ semVal (barCell c) 0 ∗ ((bigSep Finset.univ fun r : Fin 31 => semVal (sendCell c r) 0)
    ∗ (bigSep Finset.univ fun r : Fin 31 => semVal (recvCell c (up r)) 0) ∗ wSems (F := F) c) ∗ wtsPts m ρ c)

/-- The sum of the products of all the blocks, -/
def sumVal (c : Dev nD) : FVec F S128x8192 .f32 :=
  stepVal m ρ c 15 (stepVal m ρ c 14 (midList.foldl (fun o p => stepVal m ρ c p.1 o) (firstVal m ρ c)))
/-- and the result. -/
def outAt (c : Dev nD) : (cc0_stg1_0 : Ref sig .tc).ty.Contents (Elt F) := k0_pay28 (sumVal m ρ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-! ## The statements that fill the buffers -/

abbrev bR : Rect S4096x128 := Rect.unit (s := S4096x128) ![0, 0] S4096x128.size inb_S4096x128_S4096x128_0_0
theorem read_x (f : Vec F S4096x128 .f32) : xM.view.readAt (Elt F) bR.toLoadRect f = f :=
  Memref.readAt_unit_zero (Elt F) cc0_stg0_0 hz _ f

theorem wp_fillB {α : Type} {Q : α → sProp 𝕄} (c : Dev nD) (f : (cc0_scratch0 : Ref sig .tc).ty.Contents (Elt F)) (k : Prog (Eff F) α) :
    iprop(((c : Thread nD τ).loc cc0_stg0_0 ↦{fullShare} xstg m ρ c) ∗ ((c : Thread nD τ).loc cc0_scratch0 ↦{fullShare} f))
      ⊢ iprop(((((c : Thread nD τ).loc cc0_stg0_0 ↦{fullShare} xstg m ρ c) ∗ ((c : Thread nD τ).loc cc0_scratch0 ↦{fullShare} xb m ρ c)) -∗ WP c k Q)
          -∗ WP c (fillB k) Q) := by
  iintro ⟨Hx, Hb⟩ Hk
  unfold fillB
  iapply (wp_load 𝒱₀ (c : Thread nD τ) none Set.univ (m := xM) (Finset.subset_univ _)) $$ Hx; iintro Hx
  rw [read_x]
  iapply (wp_load 𝒱₀ (c : Thread nD τ) none Set.univ (m := bM) (Finset.subset_univ _)) $$ Hb; iintro Hb
  iapply (wp_store 𝒱₀ (c : Thread nD τ) none Set.univ (m := bM) (r := bR) (Mk := Finset.univ) (Finset.subset_univ _)) $$ Hb; iintro Hb
  iapply Hk
  isplitl [Hx]; · iexact Hx
  ihave H := (Entails.of_eq (congrArg (fun g => ((c : Thread nD τ).loc cc0_scratch0 ↦{fullShare} g : sProp 𝕄))
    (Memref.write_access_unit_zero_univ (Elt F) cc0_scratch0 hz inb_S4096x128_S4096x128_0_0 f (k0_pay1 (xstg m ρ c))))) $$ Hb
  unfold xb; iexact H

theorem wp_fillC {α : Type} {Q : α → sProp 𝕄} (c : Dev nD) (f : (cc0_scratch1 : Ref sig .tc).ty.Contents (Elt F)) (k : Prog (Eff F) α) :
    iprop(ownPts m ρ c ∗ slotPts c 0 f) ⊢ iprop(((ownPts m ρ c ∗ slotPts c 0 (cB m ρ c)) -∗ WP c k Q) -∗ WP c (fillC c k) Q) := by
  unfold ownPts
  iintro ⟨Hb, Hs⟩ Hk
  unfold fillC
  iapply (wp_load 𝒱₀ (c : Thread nD τ) none Set.univ (m := bM) (S := bM.view.setOn (ownR c).set) (Finset.Subset.refl _)) $$ Hb; iintro Hb
  iapply (wp_slotLoad c 0 f _) $$ Hs; iintro Hs
  unfold slotPts
  iapply (wp_store 𝒱₀ (c : Thread nD τ) none Set.univ (m := cM) (r := slotR 0) (Mk := Finset.univ) (S := (slot 0).view.set) (by rw [← slotA_set])) $$ Hs; iintro Hs
  iapply Hk
  isplitl [Hb]; · iexact Hb
  ihave H := (Entails.of_eq (own_lands m ρ c f)) $$ Hs
  unfold slotPts; iexact H

theorem wp_relu {α : Type} {Q : α → sProp 𝕄} (c : Dev nD) (o : Vec F S128x8192 .f32) (k : Prog (Eff F) α) :
    outPts c o ⊢ iprop((outPts c (k0_pay28 o) -∗ WP c k Q) -∗ WP c (relu k) Q) := by
  unfold relu
  iintro Ho Hk
  iapply (wp_oLoad c o _) $$ Ho; iintro Ho
  iapply (wp_oLoad c o _) $$ Ho; iintro Ho
  iapply (wp_oStore c o _ _) $$ Ho; iintro Ho
  iapply Hk; iexact Ho

/-! ## The barrier -/

theorem wp_barrier {α : Type} {Q : α → sProp 𝕄} (c : Dev nD) (W : Waits sig Unit) (k : PUnit → Prog (Eff F) α) :
    iprop(records m ρ K ∗ levAts L lv ∗ cred (tallyAt (barCell c) () 31) ∗ atPos ER (barCell c) 0 ∅ 0 ∗ owes (c : Thread nD τ) (owesRecv c peers) W)
      ⊢ iprop(((∃ W, (bigSep Finset.univ fun d => barPay (F := F) c d) ∗ semVal (barCell c) 0 ∗ owes (c : Thread nD τ) (owesRecv c peers) W) -∗ WP c (k ⟨⟩) Q)
          -∗ WP c (.op (.semWait barS (31#32).toInt) k) Q) := by
  iintro ⟨#Hr, #Hlev, Hc, Ha, HO⟩ Hk
  ihave ⟨#HI, #HR⟩ := (rec_bar m ρ K c) $$ Hr
  iapply (Rounds.wp_wait_rest_token 𝒱₀ ER (sched m ρ) (c : Thread nD τ) none (κ := K (c, .inl ()))
      (wpE_semWait_eq 𝒱₀ (c : Thread nD τ) none Set.univ) (Set.mem_univ _) () (O := owesRecv c peers) (W := W) (R := 0) (m := 0) (T := ∅)
      (by rw [expect_bar]; decide)) $$ [Hc HO Ha]
  · isplitr; · iexact HI
    isplitl [Hc]; · iexact Hc
    isplitl [HO]; · iexact HO
    isplitr; · iapply (mayWait_bar c); iexact Hlev
    iexact Ha
  iintro ⟨HO, Ha, -, Hpay⟩
  ihave Hp := (Entails.of_eq (rest_bar m ρ c)) $$ Hpay
  imod (Rounds.cell_close ER (sched m ρ) (Set.mem_univ (K (c, .inl ()))) (fun h => h) (R := 0 + 1) (duties_later m ρ (barCell c))) $$ [Ha] with Hz
  · isplitr; · iexact HI
    iexact Ha
  iapply Hk
  iexists _
  isplitl [Hp]; · iexact Hp
  isplitl [Hz] <;> iassumption

/-! ## The body -/

/-- Up to the sends: every peer told, all of them heard, the own block rounded and sent. -/
theorem wp_exchange {α : Type} {Q : α → sProp 𝕄} (c : Dev nD) (W : Waits sig Unit) (f0 : (cc0_scratch0 : Ref sig .tc).ty.Contents (Elt F))
    (f1 : (cc0_scratch1 : Ref sig .tc).ty.Contents (Elt F)) (k : Prog (Eff F) α) :
    iprop(records m ρ K ∗ levAts L lv
        ∗ (cred (tallyAt (barCell c) () 31) ∗ atPos ER (barCell c) 0 ∅ 0)
        ∗ ((bigSep Finset.univ fun r : Fin 31 => dutyTok ER (barCell (nxt r c)) 0 r.rev)
          ∗ (bigSep Finset.univ fun r : Fin 31 => dutyTok ER (sendCell c r) 0 0)
          ∗ (bigSep Finset.univ fun r : Fin 31 => dutyTok ER (recvCell (nxt r c) (dn r)) 0 0))
        ∗ ((c : Thread nD τ).loc cc0_stg0_0 ↦{fullShare} xstg m ρ c)
        ∗ ((c : Thread nD τ).loc cc0_scratch0 ↦{fullShare} f0)
        ∗ ((c : Thread nD τ).loc cc0_scratch1 ↦{fullShare} f1)
        ∗ owes (c : Thread nD τ) (O₀ c) W)
      ⊢ iprop(((semVal (barCell c) 0
            ∗ (bigSep Finset.univ fun r : Fin 31 => cred (tallyAt (sendCell c r) () N))
            ∗ ((c : Thread nD τ).loc cc0_stg0_0 ↦{fullShare} xstg m ρ c)
            ∗ ownPts m ρ c ∗ slotPts c 0 f1 ∗ owes0 (F := F) c) -∗ WP c k Q)
          -∗ WP c (signals c peers <| .op (.semWait barS (31#32).toInt) fun _ => fillB <| sends c peers k) Q) := by
  rw [slots_split, slots_eq]
  unfold O₀
  iintro ⟨#Hr, #Hlev, ⟨Hc, Ha⟩, ⟨HtB, HtS, HtV⟩, Hx, Hb, ⟨Hs0, Hss⟩, HO⟩ Hk
  iapply (wp_signals m ρ K c peers _ (owesRecv c peers) W) $$ [HtB Hss HO]
  · isplitr; · iexact Hr
    isplitr [HO]
    · ihave Hss := (slots_some c f1) $$ Hss
      rw [← peers_eq, bigSep_sep']
      isplitl [HtB] <;> iassumption
    iexact HO
  iintro HO
  iapply (wp_barrier m ρ K c W _) $$ [Hc Ha HO]
  · isplitr; · iexact Hr
    isplitr; · iexact Hlev
    isplitl [Hc]; · iexact Hc
    isplitl [Ha] <;> iassumption
  iintro ⟨%W', Hp, Hz, HO⟩
  iapply (wp_fillB m ρ c f0 _) $$ [Hx Hb]
  · isplitl [Hx] <;> iassumption
  iintro ⟨Hx, Hb⟩
  ihave ⟨Hown, Hsrc⟩ := (Entails.of_eq (rows_split m ρ c)) $$ Hb
  iapply (wp_sends m ρ K c peers _ 0 W') $$ [Hsrc Hp HtS HtV HO]
  · isplitr; · iexact Hr
    isplitr [HO]
    · rw [← peers_eq, bigSep_sep', bigSep_sep', bigSep_sep']
      isplitl [Hsrc]; · iexact Hsrc
      isplitl [Hp]; · iexact Hp
      isplitl [HtS] <;> iassumption
    rw [zero_add]; iexact HO
  iintro ⟨Hcs, HO⟩
  iapply Hk
  isplitl [Hz]; · iexact Hz
  isplitl [Hcs]; · rw [peers_eq]; iexact Hcs
  isplitl [Hx]; · iexact Hx
  isplitl [Hown]; · iexact Hown
  isplitl [Hs0]; · iexact Hs0
  unfold owes0; iexists _; iexact HO

/-- From there to the end of the product. -/
theorem wp_product {α : Type} {Q : α → sProp 𝕄} (c : Dev nD) (o : Vec F S128x8192 .f32) (f1 : (cc0_scratch1 : Ref sig .tc).ty.Contents (Elt F))
    (f2 : (cc0_scratch2 : Ref sig .tc).ty.Contents (Elt F)) (k : Prog (Eff F) α) :
    iprop(records m ρ K
        ∗ (ownPts m ρ c ∗ slotPts c 0 f1)
        ∗ ((bigSep Finset.univ fun r : Fin 31 => cred (tallyAt (recvCell c (up r)) () N)) ∗ bigSep Finset.univ fun r : Fin 31 => atPos ER (recvCell c (up r)) 0 ∅ 0)
        ∗ wtsPts m ρ c
        ∗ (((c : Thread nD τ).loc cc0_scratch2 ↦{fullShare} f2) ∗ wSems (F := F) c)
        ∗ outPts c o ∗ owes0 (F := F) c)
      ⊢ iprop(((ownPts m ρ c ∗ ((c : Thread nD τ).loc cc0_scratch1 ↦{fullShare} cB m ρ c)
            ∗ (bigSep Finset.univ fun r : Fin 31 => semVal (recvCell c (up r)) 0)
            ∗ wtsPts m ρ c
            ∗ ((∃ f, (c : Thread nD τ).loc cc0_scratch2 ↦{fullShare} f) ∗ wSems (F := F) c)
            ∗ outPts c (outAt m ρ c) ∗ owes0 (F := F) c) -∗ WP c k Q)
          -∗ WP c (fillC c <| first c <| mids c midList <| mulStep c 14 <| mulStep c 15 <| relu k) Q) := by
  unfold wtsPts
  rw [wBlks_eq]
  iintro ⟨#Hr, ⟨Hown, Hs0⟩, ⟨Hcr, Hat⟩, Hw, ⟨H2, Hv⟩, Ho, HO⟩ Hk
  iapply (wp_fillC m ρ c f1 _) $$ [Hown Hs0]
  · isplitl [Hown] <;> iassumption
  iintro ⟨Hown, Hs0⟩
  ihave ⟨Hp0, Hpm, Hp14, Hp15⟩ := (Entails.of_eq (pends_eq m ρ c)) $$ [Hs0 Hcr Hat]
  · rw [bigSep_sep']
    isplitl [Hs0]; · iexact Hs0
    isplitl [Hcr] <;> iassumption
  ihave ⟨Hw0, Hwm⟩ := (Entails.of_eq (fetches_eq (wBlk m ρ c))) $$ Hw
  ihave Hf := (show iprop(((c : Thread nD τ).loc cc0_scratch2 ↦{fullShare} f2) ∗ wSems (F := F) c) ⊢ (iprop(free c 0 ∗ free c 1 ∗ free c 2) : sProp 𝕄) by
    rw [← frees_eq, halves_split]
    unfold wSems freeHalf
    rw [bigSep_sep']
    exact BI.sep_mono (bigSep_mono fun kt _ => half_some c kt.1 kt.2 f2) (BI.Entails.refl _)) $$ [H2 Hv]
  · isplitl [H2] <;> iassumption
  iapply (wp_first m ρ K c o _) $$ [Hp0 Hw0 Hf Ho HO]
  · isplitr; · iexact Hr
    isplitl [Hp0]; · iexact Hp0
    isplitl [Hw0]; · iexact Hw0
    isplitl [Hf]; · iexact Hf
    isplitl [Ho] <;> iassumption
  iintro ⟨Hl0, Hw0, Hg1, Hg2, Hf0, Ho, HO⟩
  iapply (wp_mids m ρ K c midList _ 1 2 0 good_midList (firstVal m ρ c)) $$ [Hpm Hwm Hg1 Hg2 Hf0 Ho HO]
  · isplitr; · iexact Hr
    isplitl [Hpm]; · iexact Hpm
    isplitl [Hwm]; · iexact Hwm
    isplitl [Hg1]; · iexact Hg1
    isplitl [Hg2]; · iexact Hg2
    isplitl [Hf0]; · iexact Hf0
    isplitl [Ho] <;> iassumption
  iintro ⟨Hlm, Hwm, Hg14, Hg15, Hf1, Ho, HO⟩
  iapply (wp_mulStep m ρ K c 14 (by decide) _ _) $$ [Hp14 Hg14 Ho HO]
  · isplitr; · iexact Hr
    isplitl [Hp14]; · iexact Hp14
    isplitl [Hg14]; · iexact Hg14
    isplitl [Ho] <;> iassumption
  iintro ⟨Hl14, Hf2, Hw14, Ho, HO⟩
  iapply (wp_mulStep m ρ K c 15 (by decide) _ _) $$ [Hp15 Hg15 Ho HO]
  · isplitr; · iexact Hr
    isplitl [Hp15]; · iexact Hp15
    isplitl [Hg15]; · iexact Hg15
    isplitl [Ho] <;> iassumption
  iintro ⟨Hl15, Hf0, Hw15, Ho, HO⟩
  iapply (wp_relu c _ _) $$ Ho; iintro Ho
  ihave ⟨Hs, -, Hz⟩ := (Entails.of_eq (landeds_eq m ρ c)) $$ [Hl0 Hlm Hl14 Hl15]
  · isplitl [Hl0]; · iexact Hl0
    isplitl [Hlm]; · iexact Hlm
    isplitl [Hl14] <;> iassumption
  iapply Hk
  isplitl [Hown]; · iexact Hown
  isplitl [Hs]; · iexact Hs
  isplitl [Hz]; · iexact Hz
  isplitl [Hw0 Hwm Hw14 Hw15]
  · rw [blocks_eq]
    isplitl [Hw0]; · iexact Hw0
    isplitl [Hwm]; · iexact Hwm
    isplitl [Hw14] <;> iassumption
  isplitl [Hf0 Hf1 Hf2]
  · iapply (show iprop(free c 0 ∗ free c 1 ∗ free c 2) ⊢ (iprop((∃ f, (c : Thread nD τ).loc cc0_scratch2 ↦{fullShare} f) ∗ wSems (F := F) c) : sProp 𝕄) by
      rw [← frees_eq]
      unfold wSems freeHalf
      rw [bigSep_sep']
      exact BI.sep_mono (halves_join c f2) (BI.Entails.refl _))
    isplitl [Hf0]; · iexact Hf0
    isplitl [Hf1]; · iexact Hf1
    iexact Hf2
  isplitl [Ho]; · unfold outAt sumVal; iexact Ho
  iexact HO

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_0 (t : Fin cfg0.N) : (cfg0.win (0 : Fin 2)).fetch t = true := fetch0_0 t

def bodyPre (c : Dev nD) : sProp 𝕄 :=
  iprop(((records m ρ K ∗ linear (F := F) c) ∗ (credits (F := F) c ∗ levAts L lv ∗ wSems (F := F) c ∗ wtsPts m ρ c) ∗ scr (F := F) c)
    ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m ρ c ∗ (dats m ρ 0 c).owesAt () t0_0.succ ∗ stg c cc0_stg0_0 (xstg m ρ c) ∗ stg c cc0_stg1_0 (outAt m ρ c))

theorem prog_sound (c : Dev nD) (Kt : PUnit → sProp 𝕄) :
    iprop(bodyPre m ρ K c ∗ (bodyPost m ρ c -∗ Kt ⟨⟩)) ⊢ WP c (prog (F := F)) Kt := by
  unfold prog WP
  rw [wp_deviceId]
  unfold bodyPre linear credits scr
  iintro ⟨⟨⟨⟨#Hr, HaB, HaS, HaV, HtB, HtS, HtV⟩, ⟨⟨HcB, HcV⟩, #Hlev, Hv, Hw⟩, ⟨%f0, H0⟩, ⟨%f1, H1⟩, ⟨%f2, H2⟩⟩, HO, ⟨%d0, %g0, %hg0, Hx⟩, ⟨%d1, %g1, %hg1, Ho⟩⟩, Hk⟩
  have hx : g0 = xstg m ρ c := by rw [hg0]; unfold Dat.before; rw [if_pos (fetch_0 t0_0)]; rfl
  subst hx
  unfold Dat.owesAt Pipeline.owesWithin
  icases HO with ⟨%W, %hW, HO⟩
  rw [show (dats m ρ 0 c).owed t0_0.castSucc = O₀ c from rfl]
  iapply (wp_exchange m ρ K c W f0 f1 _) $$ [HcB HaB HtB HtS HtV Hx H0 H1 HO]
  · isplitr; · iexact Hr
    isplitr; · iexact Hlev
    isplitl [HcB HaB]; · isplitl [HcB] <;> iassumption
    isplitl [HtB HtS HtV]
    · isplitl [HtB]; · iexact HtB
      isplitl [HtS] <;> iassumption
    isplitl [Hx]; · iexact Hx
    isplitl [H0]; · iexact H0
    isplitl [H1] <;> iassumption
  iintro ⟨HzB, Hcs, Hx, Hown, Hs0, HO⟩
  iapply (wp_product m ρ K c g1 f1 f2 _) $$ [Hown Hs0 HcV HaV Hw H2 Hv Ho HO]
  · isplitr; · iexact Hr
    isplitl [Hown Hs0]; · isplitl [Hown] <;> iassumption
    isplitl [HcV HaV]; · isplitl [HcV] <;> iassumption
    isplitl [Hw]; · iexact Hw
    isplitl [H2 Hv]; · isplitl [H2] <;> iassumption
    isplitl [Ho]; · unfold outPts; iexact Ho
    iexact HO
  iintro ⟨Hown, H1, HzV, Hw, ⟨H2, Hv⟩, Ho, HO⟩
  iapply (wp_sendWaits m ρ K c peers _) $$ [Hcs HaS HO]
  · isplitr; · iexact Hr
    isplitr [HO]
    · rw [← peers_eq, bigSep_sep']
      isplitl [Hcs] <;> iassumption
    iexact HO
  iintro ⟨Hl, HO⟩
  ihave ⟨Hsrc, HzS⟩ := (Entails.of_eq ((peers_eq _).symm.trans (bigSep_sep' ..))) $$ Hl
  ihave H0 := (Entails.of_eq (rows_split m ρ c).symm) $$ [Hown Hsrc]
  · isplitl [Hown] <;> iassumption
  unfold WP
  rw [wp_ret]; imodintro
  iapply Hk
  unfold bodyPost Φ₁ Dat.owesAt Pipeline.owesWithin scr outPts owes0
  rw [show (dats m ρ 0 c).owed t0_0.succ = 0 from rfl]
  isplitl [H0 H1 H2 HzB HzS HzV Hv Hw]
  · isplitl [H0 H1 H2]
    · isplitl [H0]; · iexists _; iexact H0
      isplitl [H1]; · iexists _; iexact H1
      iexact H2
    isplitl [HzB]; · iexact HzB
    isplitl [HzS HzV Hv]
    · isplitl [HzS]; · iexact HzS
      isplitl [HzV] <;> iassumption
    iexact Hw
  isplitl [HO]
  · icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Ho

theorem sound_body (c : Dev nD) (Kt : PUnit → sProp 𝕄) :
    iprop(bodyPre m ρ K c ∗ (bodyPost m ρ c -∗ Kt ⟨⟩)) ⊢ WP c (bodyAt0 (F := F) t0_0) Kt := by
  have h : bodyAt0 (F := F) t0_0 = prog := by
    show cc0_body xM _ wM _ oM _ bM _ cM _ kM _ cc0_scratch3 cc0_scratch4 cc0_scratch5 = _
    rw [cc0_body_eq_skeleton, body_eq]
  rw [h]; exact prog_sound m ρ K c Kt

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem bigSep_W (Φ : Fin cfg0.W → sProp 𝕄) : bigSep Finset.univ Φ = iprop(Φ (0 : Fin 2) ∗ Φ (1 : Fin 2)) := bigSep_W0 Φ

def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- The body meets the pipeline's demand of it. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre' m ρ c ⊢ WP c (bodyAt0 (F := F) t0_0) (fun _ => bodyPost m ρ c)
  unfold bodyPre' Φ₀ start
  iintro ⟨⟨⟨⟨%K, Hg⟩, Hrest⟩, Hscr⟩, HO, Hx, Ho⟩
  iapply (sound_body m ρ K c fun _ => bodyPost m ρ c)
  unfold bodyPre
  isplitr []
  · isplitl [Hg Hrest Hscr]
    · isplitl [Hg]; · iexact Hg
      isplitl [Hrest] <;> iassumption
    isplitl [HO]; · iexact HO
    isplitl [Hx] <;> iassumption
  · iintro H; iexact H

end Cert.KernelIdeal.Body

end
-- ==== Proof.KernelIdeal.Launch.lean ====
/-
  The launch: the protocol's cells set up on every device, the tokens dealt round, and the run of the whole program.
-/
module

public import proofs.«01_k».proof.Proof.KernelIdeal.Body
public import proofs.«01_k».proof.Proof.Gen.KernelIdeal.Frame
public import Idealize.ShloMosaic.Lib.Pipeline.CollectiveSegs

@[expose] public section

set_option maxRecDepth 65536

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own counters, and the cells -/

/-- The sends', the arrivals', and the weight copies'. -/
abbrev OI : Type := (Fin 31 ⊕ Fin 31) ⊕ (Fin 3 × Fin 2)
abbrev osem : OI → SemLoc sig
  | .inl (.inl r) => .dma (sendS (up r)) | .inl (.inr r) => .dma (recvS (up r)) | .inr kt => .dma (wS kt.1 kt.2)

theorem ownSemFacts : Pipeline.OwnSemFacts cfg0.spec osem := by decide +kernel

theorem csem_inj : ∀ k k' : CI, csem k = csem k' → k = k' := by decide +kernel
theorem kcell_injective : Function.Injective (kcell : Dev nD × CI → GSem nD τ sig) := by
  rintro ⟨c, k⟩ ⟨c', k'⟩ h
  exact Prod.ext (congrArg (fun g : GSem nD τ sig => g.1.1) h) (csem_inj k k' (congrArg Prod.snd h))
def ringCells : Finset (GSem nD τ sig) := Finset.univ.map ⟨kcell, kcell_injective⟩

/-- The payments to a device's cells: the peers' to its barrier, its own to its sends, the peers' to its arrivals. -/
abbrev TI : Type := Fin 31 ⊕ (Fin 31 ⊕ Fin 31)
abbrev tokAt : TI → SemLoc sig × Fin 31
  | .inl d => (.reg barS, d) | .inr (.inl r) => (.dma (sendS (up r)), 0) | .inr (.inr r) => (.dma (recvS (up r)), 0)
theorem tokAt_inj : ∀ j j' : TI, tokAt j = tokAt j' → j = j' := by decide +kernel
abbrev tokOf (cj : Dev nD × TI) : GSem nD τ sig × ℕ × Fin 31 := (((cj.1 : Thread nD τ), (tokAt cj.2).1), 0, (tokAt cj.2).2)
theorem tokOf_injective : Function.Injective (tokOf : Dev nD × TI → GSem nD τ sig × ℕ × Fin 31) := by
  rintro ⟨c, j⟩ ⟨c', j'⟩ h
  exact Prod.ext (congrArg (fun x : GSem nD τ sig × ℕ × Fin 31 => x.1.1.1) h)
    (tokAt_inj j j' (Prod.ext (congrArg (fun x : GSem nD τ sig × ℕ × Fin 31 => x.1.2) h) (congrArg (fun x : GSem nD τ sig × ℕ × Fin 31 => x.2.2) h)))
def ringToks : Finset (GSem nD τ sig × ℕ × Fin 31) := Finset.univ.map ⟨tokOf, tokOf_injective⟩

def u₀ : UU :=
  (initOf (Pipeline.cells cfgs cellOf_inj) (Pipeline.launchToks cfgs cellOf_inj), (initOf ringCells ringToks, (1 : Counters)))

/-! ## The set-up -/

theorem sum_eq {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ
theorem cells_eq (Φ : CI → sProp 𝕄) :
    bigSep Finset.univ Φ = iprop(Φ (.inl ()) ∗ (bigSep Finset.univ fun r => Φ (.inr (.inl r))) ∗ bigSep Finset.univ fun r => Φ (.inr (.inr r))) := by
  rw [sum_eq, sum_eq, bigSep_univ_of_subsingleton ()]

/-- The tokens of a device's own cells. -/
def toks (c : Dev nD) : sProp 𝕄 :=
  iprop((bigSep Finset.univ fun d : Fin 31 => dutyTok ER (barCell c) 0 d)
    ∗ (bigSep Finset.univ fun r : Fin 31 => dutyTok ER (sendCell c r) 0 0)
    ∗ (bigSep Finset.univ fun r : Fin 31 => dutyTok ER (recvCell c (up r)) 0 0))

/-- What the launch deals a device, -/
def G (c : Dev nD) : sProp 𝕄 :=
  iprop((bigSep Finset.univ fun k : CI => roundState ER (sched m ρ) (kcell (c, k)) 0)
    ∗ (bigSep Finset.univ fun k : CI => iprop(atPos ER (kcell (c, k)) 0 ∅ 0 ∗ reached ER (kcell (c, k)) 0)) ∗ toks (F := F) c)

/-- and what is made of it. -/
def G' (c : Dev nD) : sProp 𝕄 := iprop((∃ K, records m ρ K ∗ linear (F := F) c) ∗ wSems (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own counters, -/
theorem ownSems0_eq (c : Dev nD) : (Pipeline.ownSems0 (Ix := Unit) (Name := ℕ) (U := UU) (Lvl := ℕ) (Val := Elt F) (τ := τ) osem c : sProp 𝕄)
    = iprop(((bigSep Finset.univ fun r : Fin 31 => semVal (sendCell c r) 0) ∗ (bigSep Finset.univ fun r : Fin 31 => semVal (recvCell c (up r)) 0)) ∗ wSems (F := F) c) := by
  unfold Pipeline.ownSems0 wSems
  rw [sum_eq, sum_eq]
/-- and the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CI => semVal (kcell (c, k)) 0) ∗ wSems (F := F) c) : sProp 𝕄) := by
  rw [ownSems0_eq, unscopedSems0_eq, cells_eq]
  iintro ⟨⟨⟨HS, HV⟩, HW⟩, HB⟩
  isplitr [HW]
  · isplitl [HB]; · iexact HB
    isplitl [HS]; · iexact HS
    iexact HV
  iexact HW

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks (F := F) c ∗ wSems (F := F) c) := by
  unfold G
  iintro ⟨Hos, Hus, Hst, Hat, Htok⟩
  ihave ⟨Hv, HW⟩ := (sems0_eq (F := F) c) $$ [Hos Hus]
  · isplitl [Hos] <;> iassumption
  imod (show iprop((bigSep Finset.univ fun k : CI => semVal (kcell (c, k)) 0) ∗ bigSep Finset.univ fun k : CI => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What is dealt to every device for each of its peers may as well be held by the peers. -/
theorem around (Φ : Dev nD → Fin 31 → sProp 𝕄) :
    (bigSep Finset.univ fun c : Dev nD => bigSep Finset.univ fun d : Fin 31 => Φ c d)
      = bigSep Finset.univ fun c : Dev nD => bigSep Finset.univ fun r : Fin 31 => Φ (nxt r c) r.rev := by
  rw [bigSep_univ_comm, bigSep_univ_comm (fun (c : Dev nD) (r : Fin 31) => Φ (nxt r c) r.rev),
    bigSep_univ_equiv Fin.revPerm fun d : Fin 31 => bigSep Finset.univ fun c : Dev nD => Φ c d]
  exact bigSep_congr fun r _ => bigSep_univ_equiv (ring r) fun c => Φ c r.rev

theorem up_rev (r : Fin 31) : up r.rev = dn r := Fin.ext (by show 1 + r.rev.val = 31 - r.val; rw [Fin.val_rev]; omega)

/-- The tokens a device pays with. -/
def payToks (c : Dev nD) : sProp 𝕄 :=
  iprop((bigSep Finset.univ fun r : Fin 31 => dutyTok ER (barCell (nxt r c)) 0 r.rev)
    ∗ (bigSep Finset.univ fun r : Fin 31 => dutyTok ER (sendCell c r) 0 0)
    ∗ (bigSep Finset.univ fun r : Fin 31 => dutyTok ER (recvCell (nxt r c) (dn r)) 0 0))

theorem toks_around : (bigSep Finset.univ fun c : Dev nD => (toks c : sProp 𝕄)) = bigSep Finset.univ fun c : Dev nD => payToks c := by
  unfold toks payToks
  rw [bigSep_sep', bigSep_sep', bigSep_sep', bigSep_sep', around fun c d => dutyTok ER (barCell c) 0 d,
    around fun c d => dutyTok ER (recvCell c (up d)) 0 0]
  exact congrArg _ (congrArg _ (bigSep_congr fun c _ => bigSep_congr fun r _ => by rw [up_rev]))

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CI → ℕ) (c : Dev nD) :
    iprop(records m ρ K ∗ ((bigSep Finset.univ fun k : CI => atPos ER (kcell (c, k)) 0 ∅ 0) ∗ payToks (F := F) c) ∗ wSems (F := F) c) ⊢ G' m ρ c := by
  unfold G' linear payToks
  rw [cells_eq]
  iintro ⟨Hr, ⟨⟨HB, HS, HV⟩, HtB, HtS, HtV⟩, HW⟩
  isplitr [HW]
  · iexists K
    isplitl [Hr]; · iexact Hr
    isplitl [HB]; · iexact HB
    isplitl [HS]; · iexact HS
    isplitl [HV]; · iexact HV
    isplitl [HtB]; · iexact HtB
    isplitl [HtS] <;> iassumption
  iexact HW

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks (F := F) c ∗ wSems (F := F) c) : sProp 𝕄)
      ⊢ bigSep Finset.univ (G' m ρ) := by
  rw [bigSep_sep', bigSep_sep', bigSep_sep', toks_around, ← bigSep_univ_prod (fun ck : Dev nD × CI => iprop(∃ κ : ℕ, cellInv ER (sched m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok, HW⟩
  ihave HK := (BI.bigSep_exists_pi Finset.univ (fun (ck : Dev nD × CI) (κ : ℕ) => (cellInv ER (sched m ρ) κ (kcell ck) : sProp 𝕄))) $$ HI
  icases HK with ⟨%K, #HI⟩
  iapply (with_persistent (R := records m ρ K) fun c _ => ghost_intro m ρ K c)
  isplitr
  · unfold records; isplitl; · iexact HI
    iexact HR
  · rw [bigSep_sep', bigSep_sep']
    isplitr [HW]
    · isplitl [Hat] <;> iassumption
    iexact HW

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What the devices owe a cell -/

theorem peers_sum (f : Fin 31 → ℕ) : (peers.map f).sum = ∑ r, f r := by
  rw [Fin.sum_univ_def, show List.finRange 31 = peers by decide]

theorem tallies_at {I : Type} (f : I → GSem nD τ sig) (k : ℕ) (l : List I) (g : GSem nD τ sig) :
    (l.map fun r => (tallyAt (f r) () k : CellTallies nD τ sig Unit)).sum g () = (l.map fun r => if g = f r then k else 0).sum := by
  induction l with
  | nil => rfl
  | cons r l ih =>
    rw [List.map_cons, List.sum_cons, Pi.add_apply, Finsupp.add_apply, tallyAt_apply, ih, List.map_cons, List.sum_cons]
    congr 1
    exact if_congr (and_iff_left rfl) rfl rfl

theorem owed_at (d : Dev nD) (g : GSem nD τ sig) :
    O₀ d g () = (∑ r, if g = recvCell (nxt r d) (dn r) then N else 0) + ∑ r, if g = barCell (nxt r d) then 1 else 0 := by
  unfold O₀ owesRecv owesBar
  rw [Pi.add_apply, Finsupp.add_apply, tallies_at, tallies_at, peers_sum, peers_sum]

theorem nxt_iff (r : Fin 31) (c d : Dev nD) : c = nxt r d ↔ d = nxt r.rev c :=
  ⟨fun h => by rw [h, nxt_rev], fun h => by rw [h, nxt_rev']⟩
theorem bar_recv_ne (c d : Dev nD) (n : Fin 32) : barCell c ≠ recvCell d n := fun h => nomatch (congrArg Prod.snd h : (SemLoc.reg barS : SemLoc sig) = .dma (recvS n))
theorem bar_iff (c d : Dev nD) : barCell c = barCell d ↔ c = d :=
  ⟨fun h => congrArg (fun g : GSem nD τ sig => g.1.1) h, fun h => h ▸ rfl⟩
theorem recvS_inj : ∀ n n' : Fin 32, recvS n = recvS n' → n = n' := by decide +kernel
theorem recv_iff (c d : Dev nD) (n n' : Fin 32) : recvCell c n = recvCell d n' ↔ c = d ∧ n = n' :=
  ⟨fun h => ⟨congrArg (fun g : GSem nD τ sig => g.1.1) h, recvS_inj n n' (SemLoc.dma.inj (congrArg Prod.snd h))⟩, fun ⟨h, h'⟩ => by rw [h, h']⟩
theorem up_dn_iff (r r' : Fin 31) : up r = dn r' ↔ r' = r.rev := by revert r r'; decide +kernel

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same]
  have h (d : Dev nD) : O₀ d (barCell c) () = ∑ r : Fin 31, if d = nxt r.rev c then 1 else 0 := by
    rw [owed_at, Finset.sum_eq_zero fun r _ => if_neg (bar_recv_ne c _ _), Nat.zero_add]
    exact Finset.sum_congr rfl fun r _ => if_congr ((bar_iff _ _).trans (nxt_iff _ _ _)) rfl rfl
  rw [Finset.sum_congr rfl fun d _ => h d, Finset.sum_comm,
    Finset.sum_congr rfl fun (r : Fin 31) _ => (Finset.sum_ite_eq' Finset.univ (nxt r.rev c) fun _ => 1).trans (if_pos (Finset.mem_univ _)),
    Finset.sum_const, Finset.card_univ, Fintype.card_fin, smul_eq_mul]

theorem launch_recv (c : Dev nD) (r : Fin 31) :
    tallyOn (recvCell c (up r)) (launchCredit (Pipeline.owing O₀) 0 (recvCell c (up r))) = (tallyAt (recvCell c (up r)) () N : CellTallies nD τ sig Unit) := by
  unfold tallyAt; refine congrArg _ (Finsupp.ext fun u => ?_); cases u
  rw [Pipeline.launchCredit_owing, Finsupp.single_eq_same]
  have h (d : Dev nD) : O₀ d (recvCell c (up r)) () = if d = nxt r c then N else 0 := by
    rw [owed_at, Finset.sum_eq_zero (s := Finset.univ) (f := fun r' : Fin 31 => if recvCell c (up r) = barCell (nxt r' d) then 1 else 0)
      fun r' _ => if_neg fun h => bar_recv_ne _ _ _ h.symm, Nat.add_zero]
    rw [Finset.sum_eq_single r.rev (fun r' _ hr => if_neg fun h => hr ((up_dn_iff r r').mp ((recv_iff _ _ _ _).mp h).2)) (fun h => absurd (Finset.mem_univ _) h)]
    refine if_congr ((recv_iff _ _ _ _).trans ⟨fun h => ?_, fun h => ⟨?_, (up_dn_iff _ _).mpr rfl⟩⟩) rfl rfl
    · rw [h.1, nxt_rev']
    · rw [h, nxt_rev]
  rw [Finset.sum_congr rfl fun d _ => h d, Finset.sum_ite_eq' Finset.univ (nxt r c) fun _ => N, if_pos (Finset.mem_univ _)]

/-- The cells that are paid by others. -/
abbrev paid : Unit ⊕ Fin 31 → SemLoc sig | .inl _ => .reg barS | .inr r => .dma (recvS (up r))
theorem paid_inj : Function.Injective paid := by decide +kernel

theorem creds (c : Dev nD) : (Pipeline.launchCred O₀ c : sProp 𝕄) ⊢ credits c := by
  unfold Pipeline.launchCred credits
  have h : (bigSep (Finset.univ.map ⟨paid, paid_inj⟩) fun sm : SemLoc sig =>
      (cred (tallyOn ((c : Thread nD τ), sm) (launchCredit (Pipeline.owing O₀) 0 ((c : Thread nD τ), sm))) : sProp 𝕄))
      = iprop(cred (tallyAt (barCell c) () 31) ∗ bigSep Finset.univ fun r : Fin 31 => cred (tallyAt (recvCell c (up r)) () N)) := by
    rw [bigSep_map, sum_eq, bigSep_univ_of_subsingleton ()]
    exact congr (congrArg _ (congrArg cred (launch_bar c))) (bigSep_congr fun r _ => congrArg cred (launch_recv c r))
  rw [← h]
  exact bigSep_subset (Finset.subset_univ _)

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hw, Hlev, Hcr, -, HG⟩
  ihave Hc := (creds (F := F) c) $$ Hcr
  imodintro
  unfold start G' wtsPts wts
  icases HG with ⟨HK, HW⟩
  isplitl
  · isplitl [HK]; · iexact HK
    isplitl [Hc]; · iexact Hc
    isplitl [Hlev]; · iexact Hlev
    isplitl [HW]; · iexact HW
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs] <;> iassumption

theorem phi1_exit (c : Dev nD) :
    (dats m ρ 0 c).Φ (Fin.last cfg0.N) ⊢ iprop((unscopedSems0 c ∗ wtsPts m ρ c) ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ scr
  iintro ⟨Hr, HzB, ⟨HzS, HzV, HW⟩, Hw⟩
  isplitl [HzB Hw]; · isplitl [HzB] <;> iassumption
  isplitl [HzS HzV HW]
  · isplitl [HzS HzV]; · isplitl [HzS] <;> iassumption
    iexact HW
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The weights are still there. -/
theorem wts_read (c : Dev nD) (s' : Phys nD τ sig (Elt F)) :
    (iprop(SI s' ∗ wtsPts m ρ c) : sProp 𝕄) ⊢ ⌜s'.mem.mem ((c : Thread nD τ).loc main_arg1) = m ((c : Thread nD τ).loc main_arg1)⌝ := by
  unfold wtsPts
  exact SI_pointsTo_agree.trans (BI.pure_mono fun h => funext fun i => h i (Finset.mem_univ i))

def finalA (c : Dev nD) (w : Fin cfg0.W) : Buf (Elt F) ((cfg0.win w).arr.view.loc (c : Thread nD τ)) := (dats m ρ 0 c).arrAt w cfg0.N

/-- The memory after the run: the staged arrays as computed, the weights as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- From any memory with every counter at zero, every run ends, with that memory and every counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (fund_ring m ρ) $$ [HX] with HG
      · unfold ER; iexact HX
      imodintro
      isplitl [HP] <;> iassumption)
    (hglob := glob m ρ)
    (hA := fun _ _ => rfl) (hpf := fun _ k => k.elim0)
    (X := start m ρ) (Y := fun c => iprop(unscopedSems0 c ∗ wtsPts m ρ c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨⟨Hu, Hw⟩, -, HSI⟩
      ihave %hw := (wts_read m ρ c s') $$ [HSI Hw]
      · isplitl [HSI] <;> iassumption
      imod (Pipeline.unscopedSems0_read (X := unscopedSems0 c) (c := c) fupd_intro s') $$ [Hu HSI] with ⟨%hu, HSI⟩
      · isplitl [Hu] <;> iassumption
      imodintro
      isplitr; · ipureintro; exact ⟨hu, hw⟩
      iexact HSI)
    (hQ := fun _ h hs => ⟨fun c => ⟨fun w => (h c).1 w, (h c).2.2.2⟩, sem_eq_zero hs fun c => (h c).2.2.1⟩)

/-- The array of `x` after the run holds what it held, -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Body

end
-- ==== Proof.KernelIdeal.Values.lean ====
/-
  What the kernel's result is over the extended reals: device `c`'s block is rows `128 c ..` of the product of the whole
  arrays, cut off below at zero.
-/
module

public import proofs.«01_k».proof.Proof.KernelIdeal.Launch
public import Idealize.ShloMosaic.Lib.Pointwise
public import Idealize.ShloMosaic.Lib.Pipeline.ValueKit

@[expose] public section

set_option maxRecDepth 65536

noncomputable section

namespace Cert.KernelIdeal.Body

open Cert.KernelIdeal Cert.KernelIdeal.Gen
open Idealize.ShloMosaic Idealize.ShloMosaic.TcCoe
open Idealize.SL.Sem
open Idealize.ShloMosaic.Pipeline (Dat Cfg Window)

/-! ## The run's arrays, read at an index -/

section reads
variable {F : FTy → Type} [FloatOps F]
variable (m : (ℓ : Loc nD τ sig) → Buf (Elt F) ℓ) (ρ : Dev nD → PrngReg)

/-- The result array when the run is over. -/
theorem finalA_out (c : Dev nD) : finalA m ρ c 1 = outAt m ρ c := by
  refine (dats m ρ 0 c).arrAt_eq_of_after_last 1 (0 : Fin 1) ⟨by decide +kernel, fun t _ => (by decide : ∀ t : Fin 1, t = 0) t, by decide +kernel⟩ _ fun j => ?_
  blk_simp
  rfl

/-- The staged block is the argument. -/
theorem xstg_apply (c : Dev nD) (k : Fin 4096) (l : Fin 128) :
    xstg m ρ c (ix2 k l) = m ((c : Thread nD τ).loc main_arg0) (ix2 k l) := by
  unfold xstg
  have h : (win0_0.blk (0 : Fin 1)).view.emb (ix2 k l) = (ix2 k l : S4096x128.Idx) :=
    funext fun a => Fin.ext (Window.rect_emb_val_of_index_zero win0_0 (0 : Fin 1) a ((by decide +kernel : ∀ a, win0_0.index (0 : Fin 1) a = 0) a) _)
  exact congrArg _ h

/-- A slot at an index, -/
theorem slotVec_apply (c : Dev nD) (n : Fin 32) (r k : Fin 128) :
    slotVec m ρ c n (ix3 0 r k) = xb m ρ (at' n.val c) (ix2 (⟨128 * c.val + r.val, by have := c.isLt; simp only [nD] at this; omega⟩ : Fin 4096) k) := by
  unfold slotVec
  rw [View.readAt_eq_ld, View.ld_apply]
  have h : (slotR n).idx (ix3 (0 : Fin 1) r k) = (ix3 n r k : S32x128x128.Idx) :=
    funext fun a => Fin.ext (match a with
      | ⟨0, _⟩ => (Rect.idx_unit_val ..).trans (Nat.add_zero _)
      | ⟨1, _⟩ => (Rect.idx_unit_val ..).trans (Nat.zero_add _)
      | ⟨2, _⟩ => (Rect.idx_unit_val ..).trans (Nat.zero_add _))
  exact congrArg (cB m ρ c) h

/-- and a block of the weights. -/
theorem wVec_apply (c : Dev nD) (s : Fin 16) (q : Fin 256) (l : Fin 8192) :
    wVec m ρ c s (ix3 0 q l) = m ((c : Thread nD τ).loc main_arg1)
      (ix2 (⟨128 * ((c.val + (2 * s.val + q.val / 128)) % 32) + q.val % 128, by omega⟩ : Fin 4096) l) := by
  unfold wVec
  rw [View.readAt_eq_ld, View.ld_apply]
  have h : (wR (slotOf s)).idx (ix3 (0 : Fin 1) q l) = (ix3 (slotOf s) q l : S3x256x8192.Idx) :=
    funext fun a => Fin.ext (match a with
      | ⟨0, _⟩ => (Rect.idx_unit_val ..).trans (Nat.add_zero _)
      | ⟨1, _⟩ => (Rect.idx_unit_val ..).trans (Nat.zero_add _)
      | ⟨2, _⟩ => (Rect.idx_unit_val ..).trans (Nat.zero_add _))
  exact congrArg (kB m ρ c s) h

end reads

/-! ## The arithmetic -/

/-- The product of one block, at an index. -/
theorem part_apply (a b : Vec Ideal S1x128x128 .bf16) (w : Vec Ideal S1x256x8192 .f32) (r : Fin 128) (l : Fin 8192) :
    part a b w (ix2 r l) = ∑ q : Fin 256, (if h : q.val < 128 then a (ix3 0 r ⟨q.val, h⟩) else b (ix3 0 r ⟨q.val - 128, by omega⟩)) * w (ix3 0 q l) := by
  unfold part
  pointwise [k0_pay3]

theorem accum_apply (a b : Vec Ideal S1x128x128 .bf16) (w : Vec Ideal S1x256x8192 .f32) (o : Vec Ideal S128x8192 .f32) (r : Fin 128) (l : Fin 8192) :
    accum a b w o (ix2 r l) = o (ix2 r l) + part a b w (ix2 r l) := by
  pointwise [accum]

theorem relu_apply (o : Vec Ideal S128x8192 .f32) (r : Fin 128) (l : Fin 8192) : k0_pay28 o (ix2 r l) = max (o (ix2 r l)) (0 : EReal) := by
  pointwise [k0_pay28]

theorem round_apply (x : Vec Ideal S4096x128 .f32) (k : Fin 4096) (l : Fin 128) : k0_pay1 x (ix2 k l) = x (ix2 k l) := by
  pointwise [k0_pay1]

/-- The rotated sum of the blocks is the sum. -/
theorem sum_rotated {M : Type} [AddCommMonoid M] (f : ℕ → M) (c : ℕ) (hc : c < 32) :
    ∑ s ∈ Finset.range 16, ∑ q ∈ Finset.range 256, f (128 * ((c + (2 * s + q / 128)) % 32) + q % 128) = ∑ k ∈ Finset.range 4096, f k := by
  rw [← Finset.sum_product']
  refine Finset.sum_nbij' (fun p => 128 * ((c + (2 * p.1 + p.2 / 128)) % 32) + p.2 % 128)
    (fun k => (((32 - c + k / 128) % 32) / 2, 128 * (((32 - c + k / 128) % 32) % 2) + k % 128)) ?_ ?_ ?_ ?_ ?_
  · intro p hp; simp only [Finset.mem_product, Finset.mem_range] at hp ⊢; omega
  · intro k hk; simp only [Finset.mem_product, Finset.mem_range] at hk ⊢; omega
  · rintro ⟨s, q⟩ hp; simp only [Finset.mem_product, Finset.mem_range] at hp
    refine Prod.ext ?_ ?_ <;> dsimp only <;> omega
  · intro k hk; simp only [Finset.mem_range] at hk; dsimp only; omega
  · intro p hp; rfl

/-! ## The result -/

/-- The products of row `i` of `x` and column `l` of `w`, in order. -/
def term (x : (⟨2, ![4096, 4096]⟩ : Shape).Idx → EReal) (w : S4096x8192.Idx → EReal) (i : Fin 4096) (l : Fin 8192) (k : ℕ) : EReal :=
  if h : k < 4096 then x (ix2 i ⟨k, h⟩) * w (ix2 ⟨k, h⟩ l) else 0

theorem term_eq (x : (⟨2, ![4096, 4096]⟩ : Shape).Idx → EReal) (w : S4096x8192.Idx → EReal) (i : Fin 4096) (l : Fin 8192) (k : ℕ) (h : k < 4096) :
    term x w i l k = x (ix2 i ⟨k, h⟩) * w (ix2 ⟨k, h⟩ l) := dif_pos h

section result
variable (m : (ℓ : Loc nD τ sig) → Buf (Elt Ideal) ℓ) (ρ : Dev nD → PrngReg)
variable (x : (⟨2, ![4096, 4096]⟩ : Shape).Idx → EReal) (w : S4096x8192.Idx → EReal)

/-- The launch holds the whole arrays `x`, cut in columns, and `w`, on every device. -/
def Holds : Prop := ∀ c : Dev nD,
  m ((c : Thread nD τ).loc main_arg0) = Layout.block ⟨2, ![4096, 128]⟩ ⟨2, ![4096, 4096]⟩ 1 32 c x ∧ m ((c : Thread nD τ).loc main_arg1) = w

/-- Row `r` of device `c`'s block. -/
abbrev row (c : Dev nD) (r : Fin 128) : Fin 4096 := ⟨128 * c.val + r.val, by have := c.isLt; simp only [nD] at this; omega⟩

variable {m x w}

/-- A slot holds columns of `x`, -/
theorem slot_x (H : Holds m x w) (c : Dev nD) (n : Fin 32) (r k : Fin 128) :
    slotVec m ρ c n (ix3 0 r k) = x (ix2 (row c r) ⟨128 * ((c.val + n.val) % 32) + k.val, by omega⟩) := by
  rw [slotVec_apply, xb, round_apply, xstg_apply, (H _).1, Layout.block_apply]
  exact congrArg x (funext fun a => Fin.ext (match a with
    | ⟨0, _⟩ => rfl
    | ⟨1, _⟩ => congrArg (· + k.val) (Nat.mul_comm _ 128)))

/-- and a block's part is its stretch of the terms. -/
theorem part_term (H : Holds m x w) (c : Dev nD) (s : Fin 16) (r : Fin 128) (l : Fin 8192) :
    part (slotVec m ρ c (lo s)) (slotVec m ρ c (hi s)) (wVec m ρ c s) (ix2 r l)
      = ∑ q ∈ Finset.range 256, term x w (row c r) l (128 * ((c.val + (2 * s.val + q / 128)) % 32) + q % 128) := by
  rw [part_apply, Finset.sum_range]
  refine Finset.sum_congr rfl fun q _ => ?_
  rw [wVec_apply, (H c).2, term_eq x w _ l _ (by omega)]
  refine congrArg (· * _) ?_
  split
  · rw [slot_x ρ H]
    exact congrArg (fun k => x (ix2 (row c r) k)) (Fin.ext (by simp only; omega))
  · rw [slot_x ρ H]
    exact congrArg (fun k => x (ix2 (row c r) k)) (Fin.ext (by simp only; omega))

/-- Device `c`'s sum is the whole product's rows. -/
theorem sumVal_apply (H : Holds m x w) (c : Dev nD) (r : Fin 128) (l : Fin 8192) :
    sumVal m ρ c (ix2 r l) = ∑ k : Fin 4096, x (ix2 (row c r) k) * w (ix2 k l) := by
  have h : ∑ k : Fin 4096, x (ix2 (row c r) k) * w (ix2 k l) = ∑ k ∈ Finset.range 4096, term x w (row c r) l k := by
    rw [Finset.sum_range]
    exact Finset.sum_congr rfl fun k _ => (term_eq x w _ l _ k.isLt).symm
  let g : ℕ → EReal := fun s => ∑ q ∈ Finset.range 256, term x w (row c r) l (128 * ((c.val + (2 * s + q / 128)) % 32) + q % 128)
  have h0 : firstVal m ρ c (ix2 r l) = g 0 := part_term ρ H c 0 r l
  have hs : ∀ (s : Fin 16) (o : Vec Ideal S128x8192 .f32), stepVal m ρ c s o (ix2 r l) = o (ix2 r l) + g s.val :=
    fun s o => (accum_apply ..).trans (congrArg (_ + ·) (part_term ρ H c s r l))
  have hf : ∀ (ps : List (Fin 16 × Fin 16)) (o : Vec Ideal S128x8192 .f32),
      ps.foldl (fun o p => stepVal m ρ c p.1 o) o (ix2 r l) = ps.foldl (fun a p => a + g p.1.val) (o (ix2 r l)) := by
    intro ps
    induction ps with
    | nil => intro o; rfl
    | cons p ps ih => intro o; exact (ih _).trans (congrArg (fun a => ps.foldl _ a) (hs p.1 o))
  have hg : ∑ s ∈ Finset.range 16, g s = midList.foldl (fun a p => a + g p.1.val) (g 0) + g 14 + g 15 := by
    rw [Finset.sum_range_succ, Finset.sum_range_succ]
    refine congrArg (fun a => a + g 14 + g 15) ?_
    rw [show midList.foldl (fun a p => a + g p.1.val) (g 0) = (midList.map fun p => g p.1.val).foldl (· + ·) (g 0) from List.foldl_map.symm]
    simp only [Finset.sum_range_succ, Finset.sum_range_zero, zero_add, midList, List.map, List.foldl]
    rfl
  rw [h, ← sum_rotated _ c.val c.isLt]
  exact ((hs 15 _).trans (congrArg (· + g 15) ((hs 14 _).trans (congrArg (· + g 14) ((hf _ _).trans (by rw [h0])))))).trans hg.symm

/-- Device `c`'s result. -/
theorem outAt_apply (H : Holds m x w) (c : Dev nD) (r : Fin 128) (l : Fin 8192) :
    outAt m ρ c (ix2 r l) = max (∑ k : Fin 4096, x (ix2 (row c r) k) * w (ix2 k l)) (0 : EReal) := by
  unfold outAt
  rw [relu_apply, sumVal_apply ρ H]

end result

end Cert.KernelIdeal.Body

end
-- ==== Proof.Ref.lean ====
/-
  The run of the reference on its one device: a product, the zero spread over the result's shape, and the larger of the two.
-/
module

public import proofs.«01_k».proof.Defs
public import proofs.«01_k».proof.Proof.Gen.ReferenceIdeal
public import Idealize.ShloMosaic.Lib.StableHlo.Run
public import Idealize.ShloMosaic.Lib.Pointwise

@[expose] public section

noncomputable section

namespace Cert.Proof.Ref

open Cert.ReferenceIdeal Facts₀
open Idealize.ShloMosaic Idealize.ShloMosaic.TcCoe Idealize.ShloMosaic.StableHlo Idealize.SL.Sem

abbrev A := FVec Ideal S4096x4096 .f32
abbrev B := FVec Ideal S4096x8192 .f32

/-- The product of the arguments, -/
def prod (x : A) (w : B) : B := Host.dotGeneral dot_S4096x4096_S4096x8192_S4096x8192_1_0_0_1_n_n none x w
/-- the zero of the result's shape, -/
def spread (z : FVec Ideal S_ .f32) : B := broadcastInDim S4096x8192 ![] bcast_S_S4096x8192 z
def nought : FVec Ideal S_ .f32 := constant S_ .f32 0x00000000#32
/-- the larger of two, -/
def larger (a b : B) : B := maximumf a b
/-- and the reference's result. -/
def out (x : A) (w : B) : B := larger (prod x w) (spread nought)

/-- The four operations. -/
abbrev steps : List (HloOp τ sig (Elt Ideal)) :=
  [binary main_arg0 main_arg1 main_v0 prod, nullary main_cst nought, unary main_cst main_v1 spread, binary main_v0 main_v1 main_v2 larger]

theorem main_steps (c : Dev nD) : main (F := Ideal) c = seq steps := rfl

theorem after_out (V : Valuation τ sig (Elt Ideal)) :
    after steps V (main_v2 : DevRef τ sig) = out (V (main_arg0 : DevRef τ sig)) (V (main_arg1 : DevRef τ sig)) := by
  after_results
  rfl

theorem after_x (V : Valuation τ sig (Elt Ideal)) : after steps V (main_arg0 : DevRef τ sig) = V (main_arg0 : DevRef τ sig) := by
  after_results

theorem after_w (V : Valuation τ sig (Elt Ideal)) : after steps V (main_arg1 : DevRef τ sig) = V (main_arg1 : DevRef τ sig) := by
  after_results

/-- From any memory with its counters at zero the run ends with the result computed, the arguments kept, the counters at zero. -/
theorem run (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_v2)
          = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v2).trans (after_out _), (h c main_arg0).trans (after_x _),
      (h c main_arg1).trans (after_w _)⟩, sem_eq_zero_of_no_sems (by decide) r.2⟩)
    (run_seq (by decide) (by decide) defs main (fun _ => steps) main_steps
      (fun _ => ⟨binary_bufs_sub .., nullary_bufs_sub .., unary_bufs_sub .., binary_bufs_sub ..⟩) m ρ)

/-- The result at an index. -/
theorem out_apply (x : A) (w : B) (i : Fin 4096) (l : Fin 8192) :
    out x w (ix2 i l) = max (∑ k : Fin 4096, x (ix2 i k) * w (ix2 k l)) (0 : EReal) := by
  pointwise [out, larger, prod, spread, nought]

end Cert.Proof.Ref

end
-- ==== Proof.Same.lean ====
/-
  The two prints of the kernel are one program: no operation was rewritten between them, so a fact proved of the second for
  every reading of its floats is a fact about the first.
-/
module

public import proofs.«01_k».proof.Proof.Gen.Kernel
public import proofs.«01_k».proof.Proof.Gen.Kernel.Skeleton
public import proofs.«01_k».proof.Proof.KernelIdeal.Prog

@[expose] public section

set_option maxRecDepth 65536

noncomputable section

namespace Cert.Proof.Same

open Idealize.ShloMosaic Idealize.SL.Sem
open Cert.KernelIdeal.Body

variable {F : FTy → Type} [FloatOps F]

/-- The first print's body is the program of loops that the second's is, -/
theorem loops (h0 : xM.IsWhole) (h1 : wM.IsWhole) (h2 : oM.IsWhole) (h3 : bM.IsWhole) (h4 : cM.IsWhole) (h5 : kM.IsWhole) :
    (Cert.Kernel.Gen.cc0_body_skel xM h0 wM h1 oM h2 bM h3 cM h4 kM h5 Cert.Kernel.cc0_scratch3 Cert.Kernel.cc0_scratch4
      Cert.Kernel.cc0_scratch5 : Prog (Eff F) PUnit) = prog := by
  chain_rfl

/-- so the bodies are equal, -/
theorem body (h0 : xM.IsWhole) (h1 : wM.IsWhole) (h2 : oM.IsWhole) (h3 : bM.IsWhole) (h4 : cM.IsWhole) (h5 : kM.IsWhole) :
    Cert.Kernel.cc0_body (F := F) xM h0 wM h1 oM h2 bM h3 cM h4 kM h5 Cert.Kernel.cc0_scratch3 Cert.Kernel.cc0_scratch4
        Cert.Kernel.cc0_scratch5
      = Cert.KernelIdeal.cc0_body (F := F) xM h0 wM h1 oM h2 bM h3 cM h4 kM h5 Cert.KernelIdeal.cc0_scratch3
        Cert.KernelIdeal.cc0_scratch4 Cert.KernelIdeal.cc0_scratch5 := by
  rw [Cert.Kernel.Gen.cc0_body_eq_skeleton, Cert.KernelIdeal.Gen.cc0_body_eq_skeleton, body_eq]
  exact loops h0 h1 h2 h3 h4 h5

/-- the tables that hold them are, -/
theorem table : Cert.Kernel.defs₀ (F := F) = Cert.KernelIdeal.defs₀ := by
  refine congrArg Defs.onTc (funext fun l => funext fun a => ?_)
  match l, a with
  | ⟨0, _⟩, (_, _) => exact body _ _ _ _ _ _

theorem defs : Cert.Kernel.defs (F := F) = Cert.KernelIdeal.defs := congrArg (Pipeline.defs _) table

/-- and the programs that call them. -/
theorem main : Cert.Kernel.main (F := F) = Cert.KernelIdeal.main := rfl

end Cert.Proof.Same

end
-- ==== Proof.lean ====
/-
  The claims: both prints of the kernel run to the end with their arguments kept and every counter back at zero, so does the
  reference, and over the extended reals each device's result is its block of rows of the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelIdeal.Values
public import proofs.«01_k».proof.Proof.Ref
public import proofs.«01_k».proof.Proof.Same

@[expose] public section

noncomputable section

namespace Cert.Proof

open Idealize.ShloMosaic Idealize.SL.Sem

/-- The run of the kernel, whatever its floats are: it ends, keeps its arguments, and leaves every counter at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨((h.1 c).1 0).trans (Cert.KernelIdeal.Body.finalA_x m ρ c), (h.1 c).2⟩, h.2⟩)
    (Cert.KernelIdeal.Body.run_main m ρ)

theorem frame_kernel : Cert.quiescent_Kernel := fun m ρ _ => by
  rw [Same.defs, Same.main]
  exact frame (F := Bits) m ρ

theorem frame_ideal : Cert.quiescent_KernelIdeal := fun m ρ _ => frame (F := Ideal) m ρ

theorem frame_reference : Cert.quiescent_ReferenceIdeal := fun m ρ _ =>
  (θ_run Cert.ReferenceIdeal.defs _ _).mono (fun _ h => ⟨fun c => (h.1 c).2, h.2⟩) (Ref.run m ρ)

/-- Device `c`'s result is rows `128 c ..` of the reference's. -/
theorem result_eq (m : (ℓ : Loc Cert.KernelIdeal.nD Cert.KernelIdeal.τ Cert.KernelIdeal.sig) → Buf (Elt Ideal) ℓ)
    (ρ : Dev Cert.KernelIdeal.nD → PrngReg) (x : Ref.A) (w : Ref.B) (H : Cert.KernelIdeal.Body.Holds m x w) (c : Dev Cert.KernelIdeal.nD) :
    Cert.KernelIdeal.Body.outAt m ρ c = Layout.block ⟨2, ![128, 8192]⟩ ⟨2, ![4096, 8192]⟩ 0 32 c (Ref.out x w) := by
  funext i
  obtain ⟨r, l, rfl⟩ : ∃ (r : Fin 128) (l : Fin 8192), i = ix2 r l := ⟨_, _, eq_ix2 i⟩
  refine (Cert.KernelIdeal.Body.outAt_apply ρ H c r l).trans ((Ref.out_apply x w _ l).symm.trans ?_)
  exact congrArg (Ref.out x w) (funext fun a => Fin.ext (match a with
    | ⟨0, _⟩ => congrArg (· + r.val) (Nat.mul_comm 128 _)
    | ⟨1, _⟩ => rfl))

theorem value : Cert.algebraic_KernelIdeal_ReferenceIdeal := fun m ρ m' ρ' _ hag =>
  ⟨_, (θ_run Cert.KernelIdeal.defs _ _).mono
      (fun _ h c => ⟨((h.1 c).1 1).trans ((Cert.KernelIdeal.Body.finalA_out m ρ c).trans (result_eq m ρ _ _ hag c)),
        ((h.1 c).1 0).trans (Cert.KernelIdeal.Body.finalA_x m ρ c), (h.1 c).2⟩)
      (Cert.KernelIdeal.Body.run_main (F := Ideal) m ρ),
    (θ_run Cert.ReferenceIdeal.defs _ _).mono (fun _ h => h.1 0) (Ref.run m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
